-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "mask" .f32 0xFF61B1E6#32 ⊥
  ∧ IdealRules.named_const.Statement Cert.KernelIdeal.κ "inv_alpha" .f32 0x40A00000#32 ((67108864 / 13421773 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_v209) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  main_v3
-- ==== Kernel.lean ====
abbrev S128x100000 : Shape := ⟨2, ![128, 100000]⟩
abbrev S12800000 : Shape := ⟨1, ![12800000]⟩
abbrev S_ : Shape := ⟨0, ![]⟩
abbrev S128x1 : Shape := ⟨2, ![128, 1]⟩
abbrev S128x12800 : Shape := ⟨2, ![128, 12800]⟩
abbrev S128x128 : Shape := ⟨2, ![128, 128]⟩
abbrev S128 : Shape := ⟨1, ![128]⟩

abbrev nBuf : Space → Nat
  | .hbm => 241
  | .vmem => 10
  | .smem => 0
  | _ => 0

abbrev hbmTy0_0 (i : Nat) : BufTy := match i % 128 with
  | 0 => ⟨S128x100000, .f32⟩
  | 1 => ⟨S12800000, .i32⟩
  | 2 => ⟨S_, .i32⟩
  | 3 => ⟨S12800000, .i32⟩
  | 4 => ⟨S12800000, .i32⟩
  | 5 => ⟨S_, .i32⟩
  | 6 => ⟨S12800000, .i32⟩
  | 7 => ⟨S12800000, .i32⟩
  | 8 => ⟨S_, .i32⟩
  | 9 => ⟨S12800000, .i32⟩
  | 10 => ⟨S12800000, .i32⟩
  | 11 => ⟨S12800000, .i32⟩
  | 12 => ⟨S12800000, .i32⟩
  | 13 => ⟨S12800000, .i32⟩
  | 14 => ⟨S_, .i32⟩
  | 15 => ⟨S12800000, .i32⟩
  | 16 => ⟨S12800000, .i32⟩
  | 17 => ⟨S_, .i32⟩
  | 18 => ⟨S12800000, .i32⟩
  | 19 => ⟨S12800000, .i32⟩
  | 20 => ⟨S12800000, .i32⟩
  | 21 => ⟨S12800000, .i32⟩
  | 22 => ⟨S12800000, .i32⟩
  | 23 => ⟨S_, .i32⟩
  | 24 => ⟨S12800000, .i32⟩
  | 25 => ⟨S12800000, .i32⟩
  | 26 => ⟨S_, .i32⟩
  | 27 => ⟨S12800000, .i32⟩
  | 28 => ⟨S12800000, .i32⟩
  | 29 => ⟨S12800000, .i32⟩
  | 30 => ⟨S12800000, .i32⟩
  | 31 => ⟨S12800000, .i32⟩
  | 32 => ⟨S_, .i32⟩
  | 33 => ⟨S12800000, .i32⟩
  | 34 => ⟨S12800000, .i32⟩
  | 35 => ⟨S_, .i32⟩
  | 36 => ⟨S12800000, .i32⟩
  | 37 => ⟨S12800000, .i32⟩
  | 38 => ⟨S12800000, .i32⟩
  | 39 => ⟨S12800000, .i32⟩
  | 40 => ⟨S_, .i32⟩
  | 41 => ⟨S12800000, .i32⟩
  | 42 => ⟨S12800000, .i32⟩
  | 43 => ⟨S_, .i32⟩
  | 44 => ⟨S12800000, .i32⟩
  | 45 => ⟨S12800000, .i32⟩
  | 46 => ⟨S12800000, .i32⟩
  | 47 => ⟨S_, .i32⟩
  | 48 => ⟨S12800000, .i32⟩
  | 49 => ⟨S12800000, .i32⟩
  | 50 => ⟨S_, .i32⟩
  | 51 => ⟨S12800000, .i32⟩
  | 52 => ⟨S12800000, .i32⟩
  | 53 => ⟨S12800000, .i32⟩
  | 54 => ⟨S12800000, .i32⟩
  | 55 => ⟨S12800000, .i32⟩
  | 56 => ⟨S_, .i32⟩
  | 57 => ⟨S12800000, .i32⟩
  | 58 => ⟨S12800000, .i32⟩
  | 59 => ⟨S_, .i32⟩
  | 60 => ⟨S12800000, .i32⟩
  | 61 => ⟨S12800000, .i32⟩
  | 62 => ⟨S12800000, .i32⟩
  | 63 => ⟨S12800000, .i32⟩
  | 64 => ⟨S12800000, .i32⟩
  | 65 => ⟨S_, .i32⟩
  | 66 => ⟨S12800000, .i32⟩
  | 67 => ⟨S12800000, .i32⟩
  | 68 => ⟨S_, .i32⟩
  | 69 => ⟨S12800000, .i32⟩
  | 70 => ⟨S12800000, .i32⟩
  | 71 => ⟨S12800000, .i32⟩
  | 72 => ⟨S12800000, .i32⟩
  | 73 => ⟨S12800000, .i32⟩
  | 74 => ⟨S_, .i32⟩
  | 75 => ⟨S12800000, .i32⟩
  | 76 => ⟨S12800000, .i32⟩
  | 77 => ⟨S_, .i32⟩
  | 78 => ⟨S12800000, .i32⟩
  | 79 => ⟨S12800000, .i32⟩
  | 80 => ⟨S12800000, .i32⟩
  | 81 => ⟨S12800000, .i32⟩
  | 82 => ⟨S_, .i32⟩
  | 83 => ⟨S12800000, .i32⟩
  | 84 => ⟨S12800000, .i32⟩
  | 85 => ⟨S_, .i32⟩
  | 86 => ⟨S12800000, .i32⟩
  | 87 => ⟨S12800000, .i32⟩
  | 88 => ⟨S12800000, .i32⟩
  | 89 => ⟨S_, .i32⟩
  | 90 => ⟨S12800000, .i32⟩
  | 91 => ⟨S12800000, .i32⟩
  | 92 => ⟨S_, .i32⟩
  | 93 => ⟨S12800000, .i32⟩
  | 94 => ⟨S12800000, .i32⟩
  | 95 => ⟨S12800000, .i32⟩
  | 96 => ⟨S12800000, .i32⟩
  | 97 => ⟨S12800000, .i32⟩
  | 98 => ⟨S_, .i32⟩
  | 99 => ⟨S12800000, .i32⟩
  | 100 => ⟨S12800000, .i32⟩
  | 101 => ⟨S_, .i32⟩
  | 102 => ⟨S12800000, .i32⟩
  | 103 => ⟨S12800000, .i32⟩
  | 104 => ⟨S12800000, .i32⟩
  | 105 => ⟨S12800000, .i32⟩
  | 106 => ⟨S12800000, .i32⟩
  | 107 => ⟨S_, .i32⟩
  | 108 => ⟨S12800000, .i32⟩
  | 109 => ⟨S12800000, .i32⟩
  | 110 => ⟨S_, .i32⟩
  | 111 => ⟨S12800000, .i32⟩
  | 112 => ⟨S12800000, .i32⟩
  | 113 => ⟨S12800000, .i32⟩
  | 114 => ⟨S12800000, .i32⟩
  | 115 => ⟨S12800000, .i32⟩
  | 116 => ⟨S_, .i32⟩
  | 117 => ⟨S12800000, .i32⟩
  | 118 => ⟨S12800000, .i32⟩
  | 119 => ⟨S_, .i32⟩
  | 120 => ⟨S12800000, .i32⟩
  | 121 => ⟨S12800000, .i32⟩
  | 122 => ⟨S12800000, .i32⟩
  | 123 => ⟨S12800000, .i32⟩
  | 124 => ⟨S_, .i32⟩
  | 125 => ⟨S12800000, .i32⟩
  | 126 => ⟨S12800000, .i32⟩
  | 127 => ⟨S_, .i32⟩
  | _ => ⟨S128x100000, .f32⟩

abbrev hbmTy0_1 (i : Nat) : BufTy := match i % 128 with
  | 0 => ⟨S12800000, .i32⟩
  | 1 => ⟨S12800000, .i32⟩
  | 2 => ⟨S12800000, .i32⟩
  | 3 => ⟨S_, .i32⟩
  | 4 => ⟨S12800000, .i32⟩
  | 5 => ⟨S12800000, .i32⟩
  | 6 => ⟨S_, .i32⟩
  | 7 => ⟨S12800000, .i32⟩
  | 8 => ⟨S12800000, .i32⟩
  | 9 => ⟨S12800000, .i32⟩
  | 10 => ⟨S12800000, .i32⟩
  | 11 => ⟨S12800000, .i32⟩
  | 12 => ⟨S_, .i32⟩
  | 13 => ⟨S12800000, .i32⟩
  | 14 => ⟨S12800000, .i32⟩
  | 15 => ⟨S_, .i32⟩
  | 16 => ⟨S12800000, .i32⟩
  | 17 => ⟨S12800000, .i32⟩
  | 18 => ⟨S12800000, .i32⟩
  | 19 => ⟨S12800000, .i32⟩
  | 20 => ⟨S12800000, .i32⟩
  | 21 => ⟨S_, .i32⟩
  | 22 => ⟨S12800000, .i32⟩
  | 23 => ⟨S12800000, .i32⟩
  | 24 => ⟨S_, .i32⟩
  | 25 => ⟨S12800000, .i32⟩
  | 26 => ⟨S12800000, .i32⟩
  | 27 => ⟨S12800000, .i32⟩
  | 28 => ⟨S12800000, .i32⟩
  | 29 => ⟨S12800000, .i32⟩
  | 30 => ⟨S_, .i32⟩
  | 31 => ⟨S12800000, .i32⟩
  | 32 => ⟨S12800000, .i32⟩
  | 33 => ⟨S_, .i32⟩
  | 34 => ⟨S12800000, .i32⟩
  | 35 => ⟨S12800000, .i32⟩
  | 36 => ⟨S12800000, .i32⟩
  | 37 => ⟨S12800000, .i32⟩
  | 38 => ⟨S_, .i32⟩
  | 39 => ⟨S12800000, .i32⟩
  | 40 => ⟨S12800000, .i32⟩
  | 41 => ⟨S_, .i32⟩
  | 42 => ⟨S12800000, .i32⟩
  | 43 => ⟨S12800000, .i32⟩
  | 44 => ⟨S12800000, .i32⟩
  | 45 => ⟨S_, .i32⟩
  | 46 => ⟨S12800000, .i32⟩
  | 47 => ⟨S12800000, .i32⟩
  | 48 => ⟨S_, .i32⟩
  | 49 => ⟨S12800000, .i32⟩
  | 50 => ⟨S12800000, .i32⟩
  | 51 => ⟨S12800000, .i32⟩
  | 52 => ⟨S12800000, .i32⟩
  | 53 => ⟨S12800000, .i32⟩
  | 54 => ⟨S_, .i32⟩
  | 55 => ⟨S12800000, .i32⟩
  | 56 => ⟨S12800000, .i32⟩
  | 57 => ⟨S_, .i32⟩
  | 58 => ⟨S12800000, .i32⟩
  | 59 => ⟨S12800000, .i32⟩
  | 60 => ⟨S12800000, .i32⟩
  | 61 => ⟨S12800000, .i32⟩
  | 62 => ⟨S12800000, .i32⟩
  | 63 => ⟨S_, .i32⟩
  | 64 => ⟨S12800000, .i32⟩
  | 65 => ⟨S12800000, .i32⟩
  | 66 => ⟨S_, .i32⟩
  | 67 => ⟨S12800000, .i32⟩
  | 68 => ⟨S12800000, .i32⟩
  | 69 => ⟨S12800000, .i32⟩
  | 70 => ⟨S12800000, .i32⟩
  | 71 => ⟨S12800000, .i32⟩
  | 72 => ⟨S_, .i32⟩
  | 73 => ⟨S12800000, .i32⟩
  | 74 => ⟨S12800000, .i32⟩
  | 75 => ⟨S_, .i32⟩
  | 76 => ⟨S12800000, .i32⟩
  | 77 => ⟨S12800000, .i32⟩
  | 78 => ⟨S12800000, .i32⟩
  | 79 => ⟨S12800000, .i32⟩
  | 80 => ⟨S_, .i32⟩
  | 81 => ⟨S12800000, .i32⟩
  | 82 => ⟨S12800000, .i32⟩
  | 83 => ⟨S_, .i32⟩
  | 84 => ⟨S12800000, .i32⟩
  | 85 => ⟨S12800000, .i32⟩
  | 86 => ⟨S12800000, .i32⟩
  | 87 => ⟨S_, .i32⟩
  | 88 => ⟨S12800000, .i32⟩
  | 89 => ⟨S12800000, .i32⟩
  | 90 => ⟨S_, .i32⟩
  | 91 => ⟨S12800000, .i32⟩
  | 92 => ⟨S12800000, .i32⟩
  | 93 => ⟨S12800000, .f32⟩
  | 94 => ⟨S_, .f32⟩
  | 95 => ⟨S12800000, .f32⟩
  | 96 => ⟨S12800000, .f32⟩
  | 97 => ⟨S_, .f32⟩
  | 98 => ⟨S12800000, .f32⟩
  | 99 => ⟨S12800000, .f32⟩
  | 100 => ⟨S_, .f32⟩
  | 101 => ⟨S12800000, .f32⟩
  | 102 => ⟨S12800000, .f32⟩
  | 103 => ⟨S_, .f32⟩
  | 104 => ⟨S12800000, .f32⟩
  | 105 => ⟨S12800000, .f32⟩
  | 106 => ⟨S12800000, .f32⟩
  | 107 => ⟨S12800000, .f32⟩
  | 108 => ⟨S12800000, .f32⟩
  | 109 => ⟨S12800000, .f32⟩
  | 110 => ⟨S128x100000, .f32⟩
  | 111 => ⟨S128x1, .i32⟩
  | 112 => ⟨S128x1, .f32⟩
  | _ => ⟨S128x100000, .f32⟩

abbrev hbmTy (i : Nat) : BufTy := match i / 128 with
  | 0 => hbmTy0_0 i
  | 1 => hbmTy0_1 i
  | _ => ⟨S128x100000, .f32⟩

abbrev bufTy : (tb : Table) → Fin (tcTables nBuf tb) → BufTy
  | .hbm, ⟨i, _⟩ => hbmTy i
  | .local _ .vmem, ⟨0, _⟩ => ⟨S128x12800, .f32⟩
  | .local _ .vmem, ⟨1, _⟩ => ⟨S128x12800, .f32⟩
  | .local _ .vmem, ⟨2, _⟩ => ⟨S128x12800, .f32⟩
  | .local _ .vmem, ⟨3, _⟩ => ⟨S128x12800, .f32⟩
  | .local _ .vmem, ⟨4, _⟩ => ⟨S128x1, .i32⟩
  | .local _ .vmem, ⟨5, _⟩ => ⟨S128x1, .f32⟩
  | .local _ .vmem, ⟨6, _⟩ => ⟨S128x128, .f32⟩
  | .local _ .vmem, ⟨7, _⟩ => ⟨S128x128, .i32⟩
  | .local _ .vmem, ⟨8, _⟩ => ⟨S128x128, .f32⟩
  | .local _ .vmem, ⟨9, _⟩ => ⟨S128x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_c : Ref sig .tc := ⟨.hbm, 2, rfl⟩
abbrev main_call0_v1 : Ref sig .tc := ⟨.hbm, 3, rfl⟩
abbrev main_call0_v2 : Ref sig .tc := ⟨.hbm, 4, rfl⟩
abbrev main_call0_c_0 : Ref sig .tc := ⟨.hbm, 5, rfl⟩
abbrev main_call0_v3 : Ref sig .tc := ⟨.hbm, 6, rfl⟩
abbrev main_call0_v4 : Ref sig .tc := ⟨.hbm, 7, rfl⟩
abbrev main_call0_c_1 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_c_2 : Ref sig .tc := ⟨.hbm, 14, rfl⟩
abbrev main_call0_v10 : Ref sig .tc := ⟨.hbm, 15, rfl⟩
abbrev main_call0_v11 : Ref sig .tc := ⟨.hbm, 16, rfl⟩
abbrev main_call0_c_3 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_c_4 : Ref sig .tc := ⟨.hbm, 23, rfl⟩
abbrev main_call0_v17 : Ref sig .tc := ⟨.hbm, 24, rfl⟩
abbrev main_call0_v18 : Ref sig .tc := ⟨.hbm, 25, rfl⟩
abbrev main_call0_c_5 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_v23 : Ref sig .tc := ⟨.hbm, 31, rfl⟩
abbrev main_call0_c_6 : Ref sig .tc := ⟨.hbm, 32, rfl⟩
abbrev main_call0_v24 : Ref sig .tc := ⟨.hbm, 33, rfl⟩
abbrev main_call0_v25 : Ref sig .tc := ⟨.hbm, 34, rfl⟩
abbrev main_call0_c_7 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_c_8 : Ref sig .tc := ⟨.hbm, 40, rfl⟩
abbrev main_call0_v30 : Ref sig .tc := ⟨.hbm, 41, rfl⟩
abbrev main_call0_v31 : Ref sig .tc := ⟨.hbm, 42, rfl⟩
abbrev main_call0_c_9 : Ref sig .tc := ⟨.hbm, 43, rfl⟩
abbrev main_call0_v32 : Ref sig .tc := ⟨.hbm, 44, rfl⟩
abbrev main_call0_v33 : Ref sig .tc := ⟨.hbm, 45, rfl⟩
abbrev main_call0_v34 : Ref sig .tc := ⟨.hbm, 46, rfl⟩
abbrev main_call0_c_10 : Ref sig .tc := ⟨.hbm, 47, rfl⟩
abbrev main_call0_v35 : Ref sig .tc := ⟨.hbm, 48, rfl⟩
abbrev main_call0_v36 : Ref sig .tc := ⟨.hbm, 49, rfl⟩
abbrev main_call0_c_11 : Ref sig .tc := ⟨.hbm, 50, rfl⟩
abbrev main_call0_v37 : Ref sig .tc := ⟨.hbm, 51, rfl⟩
abbrev main_call0_v38 : Ref sig .tc := ⟨.hbm, 52, rfl⟩
abbrev main_call0_v39 : Ref sig .tc := ⟨.hbm, 53, rfl⟩
abbrev main_call0_v40 : Ref sig .tc := ⟨.hbm, 54, rfl⟩
abbrev main_call0_v41 : Ref sig .tc := ⟨.hbm, 55, rfl⟩
abbrev main_call0_c_12 : Ref sig .tc := ⟨.hbm, 56, rfl⟩
abbrev main_call0_v42 : Ref sig .tc := ⟨.hbm, 57, rfl⟩
abbrev main_call0_v43 : Ref sig .tc := ⟨.hbm, 58, rfl⟩
abbrev main_call0_c_13 : Ref sig .tc := ⟨.hbm, 59, rfl⟩
abbrev main_call0_v44 : Ref sig .tc := ⟨.hbm, 60, rfl⟩
abbrev main_call0_v45 : Ref sig .tc := ⟨.hbm, 61, rfl⟩
abbrev main_call0_v46 : Ref sig .tc := ⟨.hbm, 62, rfl⟩
abbrev main_call0_v47 : Ref sig .tc := ⟨.hbm, 63, rfl⟩
abbrev main_call0_v48 : Ref sig .tc := ⟨.hbm, 64, rfl⟩
abbrev main_call0_c_14 : Ref sig .tc := ⟨.hbm, 65, rfl⟩
abbrev main_call0_v49 : Ref sig .tc := ⟨.hbm, 66, rfl⟩
abbrev main_call0_v50 : Ref sig .tc := ⟨.hbm, 67, rfl⟩
abbrev main_call0_c_15 : Ref sig .tc := ⟨.hbm, 68, rfl⟩
abbrev main_call0_v51 : Ref sig .tc := ⟨.hbm, 69, rfl⟩
abbrev main_call0_v52 : Ref sig .tc := ⟨.hbm, 70, rfl⟩
abbrev main_call0_v53 : Ref sig .tc := ⟨.hbm, 71, rfl⟩
abbrev main_call0_v54 : Ref sig .tc := ⟨.hbm, 72, rfl⟩
abbrev main_call0_v55 : Ref sig .tc := ⟨.hbm, 73, rfl⟩
abbrev main_call0_c_16 : Ref sig .tc := ⟨.hbm, 74, rfl⟩
abbrev main_call0_v56 : Ref sig .tc := ⟨.hbm, 75, rfl⟩
abbrev main_call0_v57 : Ref sig .tc := ⟨.hbm, 76, rfl⟩
abbrev main_call0_c_17 : Ref sig .tc := ⟨.hbm, 77, rfl⟩
abbrev main_call0_v58 : Ref sig .tc := ⟨.hbm, 78, rfl⟩
abbrev main_call0_v59 : Ref sig .tc := ⟨.hbm, 79, rfl⟩
abbrev main_call0_v60 : Ref sig .tc := ⟨.hbm, 80, rfl⟩
abbrev main_call0_v61 : Ref sig .tc := ⟨.hbm, 81, rfl⟩
abbrev main_call0_c_18 : Ref sig .tc := ⟨.hbm, 82, rfl⟩
abbrev main_call0_v62 : Ref sig .tc := ⟨.hbm, 83, rfl⟩
abbrev main_call0_v63 : Ref sig .tc := ⟨.hbm, 84, rfl⟩
abbrev main_call0_c_19 : Ref sig .tc := ⟨.hbm, 85, rfl⟩
abbrev main_call0_v64 : Ref sig .tc := ⟨.hbm, 86, rfl⟩
abbrev main_call0_v65 : Ref sig .tc := ⟨.hbm, 87, rfl⟩
abbrev main_call0_v66 : Ref sig .tc := ⟨.hbm, 88, rfl⟩
abbrev main_call0_c_20 : Ref sig .tc := ⟨.hbm, 89, rfl⟩
abbrev main_call0_v67 : Ref sig .tc := ⟨.hbm, 90, rfl⟩
abbrev main_call0_v68 : Ref sig .tc := ⟨.hbm, 91, rfl⟩
abbrev main_call0_c_21 : Ref sig .tc := ⟨.hbm, 92, rfl⟩
abbrev main_call0_v69 : Ref sig .tc := ⟨.hbm, 93, rfl⟩
abbrev main_call0_v70 : Ref sig .tc := ⟨.hbm, 94, rfl⟩
abbrev main_call0_v71 : Ref sig .tc := ⟨.hbm, 95, rfl⟩
abbrev main_call0_v72 : Ref sig .tc := ⟨.hbm, 96, rfl⟩
abbrev main_call0_v73 : Ref sig .tc := ⟨.hbm, 97, rfl⟩
abbrev main_call0_c_22 : Ref sig .tc := ⟨.hbm, 98, rfl⟩
abbrev main_call0_v74 : Ref sig .tc := ⟨.hbm, 99, rfl⟩
abbrev main_call0_v75 : Ref sig .tc := ⟨.hbm, 100, rfl⟩
abbrev main_call0_c_23 : Ref sig .tc := ⟨.hbm, 101, rfl⟩
abbrev main_call0_v76 : Ref sig .tc := ⟨.hbm, 102, rfl⟩
abbrev main_call0_v77 : Ref sig .tc := ⟨.hbm, 103, rfl⟩
abbrev main_call0_v78 : Ref sig .tc := ⟨.hbm, 104, rfl⟩
abbrev main_call0_v79 : Ref sig .tc := ⟨.hbm, 105, rfl⟩
abbrev main_call0_v80 : Ref sig .tc := ⟨.hbm, 106, rfl⟩
abbrev main_call0_c_24 : Ref sig .tc := ⟨.hbm, 107, rfl⟩
abbrev main_call0_v81 : Ref sig .tc := ⟨.hbm, 108, rfl⟩
abbrev main_call0_v82 : Ref sig .tc := ⟨.hbm, 109, rfl⟩
abbrev main_call0_c_25 : Ref sig .tc := ⟨.hbm, 110, rfl⟩
abbrev main_call0_v83 : Ref sig .tc := ⟨.hbm, 111, rfl⟩
abbrev main_call0_v84 : Ref sig .tc := ⟨.hbm, 112, rfl⟩
abbrev main_call0_v85 : Ref sig .tc := ⟨.hbm, 113, rfl⟩
abbrev main_call0_v86 : Ref sig .tc := ⟨.hbm, 114, rfl⟩
abbrev main_call0_v87 : Ref sig .tc := ⟨.hbm, 115, rfl⟩
abbrev main_call0_c_26 : Ref sig .tc := ⟨.hbm, 116, rfl⟩
abbrev main_call0_v88 : Ref sig .tc := ⟨.hbm, 117, rfl⟩
abbrev main_call0_v89 : Ref sig .tc := ⟨.hbm, 118, rfl⟩
abbrev main_call0_c_27 : Ref sig .tc := ⟨.hbm, 119, rfl⟩
abbrev main_call0_v90 : Ref sig .tc := ⟨.hbm, 120, rfl⟩
abbrev main_call0_v91 : Ref sig .tc := ⟨.hbm, 121, rfl⟩
abbrev main_call0_v92 : Ref sig .tc := ⟨.hbm, 122, rfl⟩
abbrev main_call0_v93 : Ref sig .tc := ⟨.hbm, 123, rfl⟩
abbrev main_call0_c_28 : Ref sig .tc := ⟨.hbm, 124, rfl⟩
abbrev main_call0_v94 : Ref sig .tc := ⟨.hbm, 125, rfl⟩
abbrev main_call0_v95 : Ref sig .tc := ⟨.hbm, 126, rfl⟩
abbrev main_call0_c_29 : Ref sig .tc := ⟨.hbm, 127, rfl⟩
abbrev main_call0_v96 : Ref sig .tc := ⟨.hbm, 128, rfl⟩
abbrev main_call0_v97 : Ref sig .tc := ⟨.hbm, 129, rfl⟩
abbrev main_call0_v98 : Ref sig .tc := ⟨.hbm, 130, rfl⟩
abbrev main_call0_c_30 : Ref sig .tc := ⟨.hbm, 131, rfl⟩
abbrev main_call0_v99 : Ref sig .tc := ⟨.hbm, 132, rfl⟩
abbrev main_call0_v100 : Ref sig .tc := ⟨.hbm, 133, rfl⟩
abbrev main_call0_c_31 : Ref sig .tc := ⟨.hbm, 134, rfl⟩
abbrev main_call0_v101 : Ref sig .tc := ⟨.hbm, 135, rfl⟩
abbrev main_call0_v102 : Ref sig .tc := ⟨.hbm, 136, rfl⟩
abbrev main_call0_v103 : Ref sig .tc := ⟨.hbm, 137, rfl⟩
abbrev main_call0_v104 : Ref sig .tc := ⟨.hbm, 138, rfl⟩
abbrev main_call0_v105 : Ref sig .tc := ⟨.hbm, 139, rfl⟩
abbrev main_call0_c_32 : Ref sig .tc := ⟨.hbm, 140, rfl⟩
abbrev main_call0_v106 : Ref sig .tc := ⟨.hbm, 141, rfl⟩
abbrev main_call0_v107 : Ref sig .tc := ⟨.hbm, 142, rfl⟩
abbrev main_call0_c_33 : Ref sig .tc := ⟨.hbm, 143, rfl⟩
abbrev main_call0_v108 : Ref sig .tc := ⟨.hbm, 144, rfl⟩
abbrev main_call0_v109 : Ref sig .tc := ⟨.hbm, 145, rfl⟩
abbrev main_call0_v110 : Ref sig .tc := ⟨.hbm, 146, rfl⟩
abbrev main_call0_v111 : Ref sig .tc := ⟨.hbm, 147, rfl⟩
abbrev main_call0_v112 : Ref sig .tc := ⟨.hbm, 148, rfl⟩
abbrev main_call0_c_34 : Ref sig .tc := ⟨.hbm, 149, rfl⟩
abbrev main_call0_v113 : Ref sig .tc := ⟨.hbm, 150, rfl⟩
abbrev main_call0_v114 : Ref sig .tc := ⟨.hbm, 151, rfl⟩
abbrev main_call0_c_35 : Ref sig .tc := ⟨.hbm, 152, rfl⟩
abbrev main_call0_v115 : Ref sig .tc := ⟨.hbm, 153, rfl⟩
abbrev main_call0_v116 : Ref sig .tc := ⟨.hbm, 154, rfl⟩
abbrev main_call0_v117 : Ref sig .tc := ⟨.hbm, 155, rfl⟩
abbrev main_call0_v118 : Ref sig .tc := ⟨.hbm, 156, rfl⟩
abbrev main_call0_v119 : Ref sig .tc := ⟨.hbm, 157, rfl⟩
abbrev main_call0_c_36 : Ref sig .tc := ⟨.hbm, 158, rfl⟩
abbrev main_call0_v120 : Ref sig .tc := ⟨.hbm, 159, rfl⟩
abbrev main_call0_v121 : Ref sig .tc := ⟨.hbm, 160, rfl⟩
abbrev main_call0_c_37 : Ref sig .tc := ⟨.hbm, 161, rfl⟩
abbrev main_call0_v122 : Ref sig .tc := ⟨.hbm, 162, rfl⟩
abbrev main_call0_v123 : Ref sig .tc := ⟨.hbm, 163, rfl⟩
abbrev main_call0_v124 : Ref sig .tc := ⟨.hbm, 164, rfl⟩
abbrev main_call0_v125 : Ref sig .tc := ⟨.hbm, 165, rfl⟩
abbrev main_call0_c_38 : Ref sig .tc := ⟨.hbm, 166, rfl⟩
abbrev main_call0_v126 : Ref sig .tc := ⟨.hbm, 167, rfl⟩
abbrev main_call0_v127 : Ref sig .tc := ⟨.hbm, 168, rfl⟩
abbrev main_call0_c_39 : Ref sig .tc := ⟨.hbm, 169, rfl⟩
abbrev main_call0_v128 : Ref sig .tc := ⟨.hbm, 170, rfl⟩
abbrev main_call0_v129 : Ref sig .tc := ⟨.hbm, 171, rfl⟩
abbrev main_call0_v130 : Ref sig .tc := ⟨.hbm, 172, rfl⟩
abbrev main_call0_c_40 : Ref sig .tc := ⟨.hbm, 173, rfl⟩
abbrev main_call0_v131 : Ref sig .tc := ⟨.hbm, 174, rfl⟩
abbrev main_call0_v132 : Ref sig .tc := ⟨.hbm, 175, rfl⟩
abbrev main_call0_c_41 : Ref sig .tc := ⟨.hbm, 176, rfl⟩
abbrev main_call0_v133 : Ref sig .tc := ⟨.hbm, 177, rfl⟩
abbrev main_call0_v134 : Ref sig .tc := ⟨.hbm, 178, rfl⟩
abbrev main_call0_v135 : Ref sig .tc := ⟨.hbm, 179, rfl⟩
abbrev main_call0_v136 : Ref sig .tc := ⟨.hbm, 180, rfl⟩
abbrev main_call0_v137 : Ref sig .tc := ⟨.hbm, 181, rfl⟩
abbrev main_call0_c_42 : Ref sig .tc := ⟨.hbm, 182, rfl⟩
abbrev main_call0_v138 : Ref sig .tc := ⟨.hbm, 183, rfl⟩
abbrev main_call0_v139 : Ref sig .tc := ⟨.hbm, 184, rfl⟩
abbrev main_call0_c_43 : Ref sig .tc := ⟨.hbm, 185, rfl⟩
abbrev main_call0_v140 : Ref sig .tc := ⟨.hbm, 186, rfl⟩
abbrev main_call0_v141 : Ref sig .tc := ⟨.hbm, 187, rfl⟩
abbrev main_call0_v142 : Ref sig .tc := ⟨.hbm, 188, rfl⟩
abbrev main_call0_v143 : Ref sig .tc := ⟨.hbm, 189, rfl⟩
abbrev main_call0_v144 : Ref sig .tc := ⟨.hbm, 190, rfl⟩
abbrev main_call0_c_44 : Ref sig .tc := ⟨.hbm, 191, rfl⟩
abbrev main_call0_v145 : Ref sig .tc := ⟨.hbm, 192, rfl⟩
abbrev main_call0_v146 : Ref sig .tc := ⟨.hbm, 193, rfl⟩
abbrev main_call0_c_45 : Ref sig .tc := ⟨.hbm, 194, rfl⟩
abbrev main_call0_v147 : Ref sig .tc := ⟨.hbm, 195, rfl⟩
abbrev main_call0_v148 : Ref sig .tc := ⟨.hbm, 196, rfl⟩
abbrev main_call0_v149 : Ref sig .tc := ⟨.hbm, 197, rfl⟩
abbrev main_call0_v150 : Ref sig .tc := ⟨.hbm, 198, rfl⟩
abbrev main_call0_v151 : Ref sig .tc := ⟨.hbm, 199, rfl⟩
abbrev main_call0_c_46 : Ref sig .tc := ⟨.hbm, 200, rfl⟩
abbrev main_call0_v152 : Ref sig .tc := ⟨.hbm, 201, rfl⟩
abbrev main_call0_v153 : Ref sig .tc := ⟨.hbm, 202, rfl⟩
abbrev main_call0_c_47 : Ref sig .tc := ⟨.hbm, 203, rfl⟩
abbrev main_call0_v154 : Ref sig .tc := ⟨.hbm, 204, rfl⟩
abbrev main_call0_v155 : Ref sig .tc := ⟨.hbm, 205, rfl⟩
abbrev main_call0_v156 : Ref sig .tc := ⟨.hbm, 206, rfl⟩
abbrev main_call0_v157 : Ref sig .tc := ⟨.hbm, 207, rfl⟩
abbrev main_call0_c_48 : Ref sig .tc := ⟨.hbm, 208, rfl⟩
abbrev main_call0_v158 : Ref sig .tc := ⟨.hbm, 209, rfl⟩
abbrev main_call0_v159 : Ref sig .tc := ⟨.hbm, 210, rfl⟩
abbrev main_call0_c_49 : Ref sig .tc := ⟨.hbm, 211, rfl⟩
abbrev main_call0_v160 : Ref sig .tc := ⟨.hbm, 212, rfl⟩
abbrev main_call0_v161 : Ref sig .tc := ⟨.hbm, 213, rfl⟩
abbrev main_call0_v162 : Ref sig .tc := ⟨.hbm, 214, rfl⟩
abbrev main_call0_c_50 : Ref sig .tc := ⟨.hbm, 215, rfl⟩
abbrev main_call0_v163 : Ref sig .tc := ⟨.hbm, 216, rfl⟩
abbrev main_call0_v164 : Ref sig .tc := ⟨.hbm, 217, rfl⟩
abbrev main_call0_c_51 : Ref sig .tc := ⟨.hbm, 218, rfl⟩
abbrev main_call0_v165 : Ref sig .tc := ⟨.hbm, 219, rfl⟩
abbrev main_call0_v166 : Ref sig .tc := ⟨.hbm, 220, rfl⟩
abbrev main_call0_v167 : Ref sig .tc := ⟨.hbm, 221, rfl⟩
abbrev main_call0_cst : Ref sig .tc := ⟨.hbm, 222, rfl⟩
abbrev main_call0_v168 : Ref sig .tc := ⟨.hbm, 223, rfl⟩
abbrev main_call0_v169 : Ref sig .tc := ⟨.hbm, 224, rfl⟩
abbrev main_call0_cst_52 : Ref sig .tc := ⟨.hbm, 225, rfl⟩
abbrev main_call0_v170 : Ref sig .tc := ⟨.hbm, 226, rfl⟩
abbrev main_call0_v171 : Ref sig .tc := ⟨.hbm, 227, rfl⟩
abbrev main_call0_cst_53 : Ref sig .tc := ⟨.hbm, 228, rfl⟩
abbrev main_call0_v172 : Ref sig .tc := ⟨.hbm, 229, rfl⟩
abbrev main_call0_v173 : Ref sig .tc := ⟨.hbm, 230, rfl⟩
abbrev main_call0_cst_54 : Ref sig .tc := ⟨.hbm, 231, rfl⟩
abbrev main_call0_v174 : Ref sig .tc := ⟨.hbm, 232, rfl⟩
abbrev main_call0_v175 : Ref sig .tc := ⟨.hbm, 233, rfl⟩
abbrev main_call0_v176 : Ref sig .tc := ⟨.hbm, 234, rfl⟩
abbrev main_call0_v177 : Ref sig .tc := ⟨.hbm, 235, rfl⟩
abbrev main_call0_v178 : Ref sig .tc := ⟨.hbm, 236, rfl⟩
abbrev main_call0_v179 : Ref sig .tc := ⟨.hbm, 237, rfl⟩
abbrev main_call0_v180 : Ref sig .tc := ⟨.hbm, 238, rfl⟩
abbrev main_v0_0 : Ref sig .tc := ⟨.hbm, 239, rfl⟩
abbrev main_v0_1 : Ref sig .tc := ⟨.hbm, 240, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32_27 : BitVec 32 := 7#32
  let v848 : BitVec 1 := Scalar.cmpi .eq arg1 c7_i32_27
  let v849 : BitVec 32 := Scalar.extui v848
  let c0_i32_28 : BitVec 32 := 0#32
  let v850 : BitVec 1 := Scalar.cmpi .ne v849 c0_i32_28
  v850

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "inv_alpha" => some ((67108864 / 13421773 : ℝ) : EReal)
  | "mask" => some ⊥
  | _ => none
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S12800000 : Shape := ⟨1, ![12800000]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 303
  | .vmem => 0
  | .smem => 0
  | _ => 0

abbrev hbmTy0_0 (i : Nat) : BufTy := match i % 128 with
  | 0 => ⟨S128x100000, .f32⟩
  | 1 => ⟨S_, .f32⟩
  | 2 => ⟨S128x100000, .f32⟩
  | 3 => ⟨S128x100000, .f32⟩
  | 4 => ⟨S_, .f32⟩
  | 5 => ⟨S_, .f32⟩
  | 6 => ⟨S128x100000, .f32⟩
  | 7 => ⟨S128x100000, .f32⟩
  | 8 => ⟨S128x100000, .f32⟩
  | 9 => ⟨S_, .f32⟩
  | 10 => ⟨S128, .f32⟩
  | 11 => ⟨S128x1, .f32⟩
  | 12 => ⟨S128x100000, .f32⟩
  | 13 => ⟨S128x100000, .f32⟩
  | 14 => ⟨S12800000, .i32⟩
  | 15 => ⟨S128x100000, .i32⟩
  | 16 => ⟨S_, .i32⟩
  | 17 => ⟨S128x100000, .i32⟩
  | 18 => ⟨S_, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S_, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S128x100000, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S128x100000, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_2 (i : Nat) : BufTy := match i % 128 with
  | 0 => ⟨S128x100000, .f32⟩
  | 1 => ⟨S_, .f32⟩
  | 2 => ⟨S128x100000, .f32⟩
  | 3 => ⟨S128x100000, .f32⟩
  | 4 => ⟨S_, .f32⟩
  | 5 => ⟨S128x100000, .f32⟩
  | 6 => ⟨S128x100000, .f32⟩
  | 7 => ⟨S_, .f32⟩
  | 8 => ⟨S128x100000, .f32⟩
  | 9 => ⟨S128x100000, .f32⟩
  | 10 => ⟨S_, .f32⟩
  | 11 => ⟨S128x100000, .f32⟩
  | 12 => ⟨S128x100000, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .i32⟩
  | 20 => ⟨S_, .f32⟩
  | 21 => ⟨S_, .i32⟩
  | 22 => ⟨S128, .f32⟩
  | 23 => ⟨S128, .i32⟩
  | 24 => ⟨S128x1, .i32⟩
  | 25 => ⟨S_, .i32⟩
  | 26 => ⟨S128x1, .i32⟩
  | 27 => ⟨S128x1, .i1⟩
  | 28 => ⟨S_, .i32⟩
  | 29 => ⟨S128x1, .i32⟩
  | 30 => ⟨S128x1, .i32⟩
  | 31 => ⟨S128x1, .i32⟩
  | 32 => ⟨S128x1x1, .i32⟩
  | 33 => ⟨S1, .i32⟩
  | 34 => ⟨S_, .i32⟩
  | 35 => ⟨S128x1x1, .i32⟩
  | 36 => ⟨S128x1x1, .i1⟩
  | 37 => ⟨S1x1x1, .i32⟩
  | 38 => ⟨S128x1x1, .i32⟩
  | 39 => ⟨S128x1x1, .i1⟩
  | 40 => ⟨S128x1x1, .i1⟩
  | 41 => ⟨S_, .i1⟩
  | 42 => ⟨S128x1, .i1⟩
  | 43 => ⟨S128x1, .f32⟩
  | 44 => ⟨S_, .f32⟩
  | 45 => ⟨S128x1, .f32⟩
  | 46 => ⟨S128x1, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_6 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_8 : Ref sig .tc := ⟨.hbm, 43, rfl⟩
abbrev main_v32 : Ref sig .tc := ⟨.hbm, 44, rfl⟩
abbrev main_v33 : Ref sig .tc := ⟨.hbm, 45, rfl⟩
abbrev main_c_9 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_10 : Ref sig .tc := ⟨.hbm, 52, rfl⟩
abbrev main_v39 : Ref sig .tc := ⟨.hbm, 53, rfl⟩
abbrev main_v40 : Ref sig .tc := ⟨.hbm, 54, rfl⟩
abbrev main_c_11 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_12 : Ref sig .tc := ⟨.hbm, 60, rfl⟩
abbrev main_v45 : Ref sig .tc := ⟨.hbm, 61, rfl⟩
abbrev main_v46 : Ref sig .tc := ⟨.hbm, 62, rfl⟩
abbrev main_c_13 : Ref sig .tc := ⟨.hbm, 63, rfl⟩
abbrev main_v47 : Ref sig .tc := ⟨.hbm, 64, rfl⟩
abbrev main_v48 : Ref sig .tc := ⟨.hbm, 65, rfl⟩
abbrev main_c_14 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_15 : Ref sig .tc := ⟨.hbm, 70, rfl⟩
abbrev main_v52 : Ref sig .tc := ⟨.hbm, 71, rfl⟩
abbrev main_v53 : Ref sig .tc := ⟨.hbm, 72, rfl⟩
abbrev main_c_16 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_17 : Ref sig .tc := ⟨.hbm, 79, rfl⟩
abbrev main_v59 : Ref sig .tc := ⟨.hbm, 80, rfl⟩
abbrev main_v60 : Ref sig .tc := ⟨.hbm, 81, rfl⟩
abbrev main_c_18 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_19 : Ref sig .tc := ⟨.hbm, 88, rfl⟩
abbrev main_v66 : Ref sig .tc := ⟨.hbm, 89, rfl⟩
abbrev main_v67 : Ref sig .tc := ⟨.hbm, 90, rfl⟩
abbrev main_c_20 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_21 : Ref sig .tc := ⟨.hbm, 97, rfl⟩
abbrev main_v73 : Ref sig .tc := ⟨.hbm, 98, rfl⟩
abbrev main_v74 : Ref sig .tc := ⟨.hbm, 99, rfl⟩
abbrev main_c_22 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_23 : Ref sig .tc := ⟨.hbm, 105, rfl⟩
abbrev main_v79 : Ref sig .tc := ⟨.hbm, 106, rfl⟩
abbrev main_v80 : Ref sig .tc := ⟨.hbm, 107, rfl⟩
abbrev main_c_24 : Ref sig .tc := ⟨.hbm, 108, rfl⟩
abbrev main_v81 : Ref sig .tc := ⟨.hbm, 109, rfl⟩
abbrev main_v82 : Ref sig .tc := ⟨.hbm, 110, rfl⟩
abbrev main_c_25 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_26 : Ref sig .tc := ⟨.hbm, 115, rfl⟩
abbrev main_v86 : Ref sig .tc := ⟨.hbm, 116, rfl⟩
abbrev main_v87 : Ref sig .tc := ⟨.hbm, 117, rfl⟩
abbrev main_c_27 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_28 : Ref sig .tc := ⟨.hbm, 124, rfl⟩
abbrev main_v93 : Ref sig .tc := ⟨.hbm, 125, rfl⟩
abbrev main_v94 : Ref sig .tc := ⟨.hbm, 126, rfl⟩
abbrev main_c_29 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_30 : Ref sig .tc := ⟨.hbm, 133, rfl⟩
abbrev main_v100 : Ref sig .tc := ⟨.hbm, 134, rfl⟩
abbrev main_v101 : Ref sig .tc := ⟨.hbm, 135, rfl⟩
abbrev main_c_31 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_32 : Ref sig .tc := ⟨.hbm, 142, rfl⟩
abbrev main_v107 : Ref sig .tc := ⟨.hbm, 143, rfl⟩
abbrev main_v108 : Ref sig .tc := ⟨.hbm, 144, rfl⟩
abbrev main_c_33 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_34 : Ref sig .tc := ⟨.hbm, 150, rfl⟩
abbrev main_v113 : Ref sig .tc := ⟨.hbm, 151, rfl⟩
abbrev main_v114 : Ref sig .tc := ⟨.hbm, 152, rfl⟩
abbrev main_c_35 : Ref sig .tc := ⟨.hbm, 153, rfl⟩
abbrev main_v115 : Ref sig .tc := ⟨.hbm, 154, rfl⟩
abbrev main_v116 : Ref sig .tc := ⟨.hbm, 155, rfl⟩
abbrev main_c_36 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_37 : Ref sig .tc := ⟨.hbm, 160, rfl⟩
abbrev main_v120 : Ref sig .tc := ⟨.hbm, 161, rfl⟩
abbrev main_v121 : Ref sig .tc := ⟨.hbm, 162, rfl⟩
abbrev main_c_38 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_c_39 : Ref sig .tc := ⟨.hbm, 169, rfl⟩
abbrev main_v127 : Ref sig .tc := ⟨.hbm, 170, rfl⟩
abbrev main_v128 : Ref sig .tc := ⟨.hbm, 171, rfl⟩
abbrev main_c_40 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_41 : Ref sig .tc := ⟨.hbm, 178, rfl⟩
abbrev main_v134 : Ref sig .tc := ⟨.hbm, 179, rfl⟩
abbrev main_v135 : Ref sig .tc := ⟨.hbm, 180, rfl⟩
abbrev main_c_42 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_43 : Ref sig .tc := ⟨.hbm, 187, rfl⟩
abbrev main_v141 : Ref sig .tc := ⟨.hbm, 188, rfl⟩
abbrev main_v142 : Ref sig .tc := ⟨.hbm, 189, rfl⟩
abbrev main_c_44 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_c_45 : Ref sig .tc := ⟨.hbm, 195, rfl⟩
abbrev main_v147 : Ref sig .tc := ⟨.hbm, 196, rfl⟩
abbrev main_v148 : Ref sig .tc := ⟨.hbm, 197, rfl⟩
abbrev main_c_46 : Ref sig .tc := ⟨.hbm, 198, rfl⟩
abbrev main_v149 : Ref sig .tc := ⟨.hbm, 199, rfl⟩
abbrev main_v150 : Ref sig .tc := ⟨.hbm, 200, rfl⟩
abbrev main_c_47 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_c_48 : Ref sig .tc := ⟨.hbm, 205, rfl⟩
abbrev main_v154 : Ref sig .tc := ⟨.hbm, 206, rfl⟩
abbrev main_v155 : Ref sig .tc := ⟨.hbm, 207, rfl⟩
abbrev main_c_49 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_50 : Ref sig .tc := ⟨.hbm, 214, rfl⟩
abbrev main_v161 : Ref sig .tc := ⟨.hbm, 215, rfl⟩
abbrev main_v162 : Ref sig .tc := ⟨.hbm, 216, rfl⟩
abbrev main_c_51 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_c_52 : Ref sig .tc := ⟨.hbm, 223, rfl⟩
abbrev main_v168 : Ref sig .tc := ⟨.hbm, 224, rfl⟩
abbrev main_v169 : Ref sig .tc := ⟨.hbm, 225, rfl⟩
abbrev main_c_53 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_54 : Ref sig .tc := ⟨.hbm, 232, rfl⟩
abbrev main_v175 : Ref sig .tc := ⟨.hbm, 233, rfl⟩
abbrev main_v176 : Ref sig .tc := ⟨.hbm, 234, rfl⟩
abbrev main_c_55 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_c_56 : Ref sig .tc := ⟨.hbm, 240, rfl⟩
abbrev main_v181 : Ref sig .tc := ⟨.hbm, 241, rfl⟩
abbrev main_v182 : Ref sig .tc := ⟨.hbm, 242, rfl⟩
abbrev main_c_57 : Ref sig .tc := ⟨.hbm, 243, rfl⟩
abbrev main_v183 : Ref sig .tc := ⟨.hbm, 244, rfl⟩
abbrev main_v184 : Ref sig .tc := ⟨.hbm, 245, rfl⟩
abbrev main_c_58 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_c_59 : Ref sig .tc := ⟨.hbm, 250, rfl⟩
abbrev main_v188 : Ref sig .tc := ⟨.hbm, 251, rfl⟩
abbrev main_v189 : Ref sig .tc := ⟨.hbm, 252, rfl⟩
abbrev main_c_60 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_cst_61 : Ref sig .tc := ⟨.hbm, 257, rfl⟩
abbrev main_v193 : Ref sig .tc := ⟨.hbm, 258, rfl⟩
abbrev main_v194 : Ref sig .tc := ⟨.hbm, 259, rfl⟩
abbrev main_cst_62 : Ref sig .tc := ⟨.hbm, 260, rfl⟩
abbrev main_v195 : Ref sig .tc := ⟨.hbm, 261, rfl⟩
abbrev main_v196 : Ref sig .tc := ⟨.hbm, 262, rfl⟩
abbrev main_cst_63 : Ref sig .tc := ⟨.hbm, 263, rfl⟩
abbrev main_v197 : Ref sig .tc := ⟨.hbm, 264, rfl⟩
abbrev main_v198 : Ref sig .tc := ⟨.hbm, 265, rfl⟩
abbrev main_cst_64 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_call0_v0 : Ref sig .tc := ⟨.hbm, 275, rfl⟩
abbrev main_call0_cst : Ref sig .tc := ⟨.hbm, 276, rfl⟩
abbrev main_call0_c : Ref sig .tc := ⟨.hbm, 277, rfl⟩
abbrev main_call0_v1_0 : Ref sig .tc := ⟨.hbm, 278, rfl⟩
abbrev main_v207 : Ref sig .tc := ⟨.hbm, 279, rfl⟩
abbrev main_v208 : Ref sig .tc := ⟨.hbm, 280, rfl⟩
abbrev main_call1_c : Ref sig .tc := ⟨.hbm, 281, rfl⟩
abbrev main_call1_v0 : Ref sig .tc := ⟨.hbm, 282, rfl⟩
abbrev main_call1_v1 : Ref sig .tc := ⟨.hbm, 283, rfl⟩
abbrev main_call1_c_0 : Ref sig .tc := ⟨.hbm, 284, rfl⟩
abbrev main_call1_v2 : Ref sig .tc := ⟨.hbm, 285, rfl⟩
abbrev main_call1_v3 : Ref sig .tc := ⟨.hbm, 286, rfl⟩
abbrev main_call1_v4 : Ref sig .tc := ⟨.hbm, 287, rfl⟩
abbrev main_call1_v5 : Ref sig .tc := ⟨.hbm, 288, rfl⟩
abbrev main_call1_c_1 : Ref sig .tc := ⟨.hbm, 289, rfl⟩
abbrev main_call1_c_2 : Ref sig .tc := ⟨.hbm, 290, rfl⟩
abbrev main_call1_v6 : Ref sig .tc := ⟨.hbm, 291, rfl⟩
abbrev main_call1_v7 : Ref sig .tc := ⟨.hbm, 292, rfl⟩
abbrev main_call1_v8 : Ref sig .tc := ⟨.hbm, 293, rfl⟩
abbrev main_call1_v9 : Ref sig .tc := ⟨.hbm, 294, rfl⟩
abbrev main_call1_v10 : Ref sig .tc := ⟨.hbm, 295, rfl⟩
abbrev main_call1_v11 : Ref sig .tc := ⟨.hbm, 296, rfl⟩
abbrev main_call1_c_3 : Ref sig .tc := ⟨.hbm, 297, rfl⟩
abbrev main_call1_v12 : Ref sig .tc := ⟨.hbm, 298, rfl⟩
abbrev main_call1_v13 : Ref sig .tc := ⟨.hbm, 299, rfl⟩
abbrev main_call1_cst : Ref sig .tc := ⟨.hbm, 300, rfl⟩
abbrev main_call1_v14 : Ref sig .tc := ⟨.hbm, 301, rfl⟩
abbrev main_v209 : Ref sig .tc := ⟨.hbm, 302, rfl⟩

abbrev nD : Nat := 1
abbrev τ : Topo := Topo.v7x

variable {F : FTy → Type} [FloatOps F]
-- ==== Proof.Sweep.lean ====
/-
  The body of the sweep, block by block, in a short form: the printed body reads the two staged blocks, forms the
  masked scores `z` and the masked exponentials `e`, cuts each into a hundred slices of 128 columns, and folds the
  slices.  Here the folds are recursions over the slice number, and the printed body is shown to be the short one.
-/
module

public import proofs.«01_k».proof.Proof.Gen.KernelIdeal.Skeleton

@[expose] public section

set_option maxRecDepth 65536

noncomputable section

namespace Cert.KernelIdeal.Sweep

open Cert.KernelIdeal Cert.KernelIdeal.Gen Idealize.ShloMosaic Idealize.SL.Sem

variable {F : FTy → Type} [FloatOps F] [Named F]

theorem slices_k (k : ℕ) : S128x12800.Slices ![0, 128 * (k % 100)] S128x128 :=
  ⟨rfl, fun a => by fin_cases a <;> simp [Shape.size] <;> omega⟩

/-- Slice `k` (of a hundred, each 128 columns wide) of a block. -/
def sl {α : Type} (z : S128x12800.Idx → α) (k : ℕ) : S128x128.Idx → α :=
  extractStridedSlice S128x128 ![0, 128 * (k % 100)] z (slices_k k)

/-- The greatest of the slices `0 … k`, entry by entry. -/
def zmax (z : FVec F S128x12800 .f32) : ℕ → FVec F S128x128 .f32
  | 0 => sl z 0
  | k + 1 => maximumf (zmax z k) (sl z (k + 1))

/-- The sum of the slices `0 … k`, entry by entry. -/
def esum (e : FVec F S128x12800 .f32) : ℕ → FVec F S128x128 .f32
  | 0 => sl e 0
  | k + 1 => addf (esum e k) (sl e (k + 1))

/-- After `n` steps down from slice 99: the number of the last slice seen whose entry equals `M`, else 0. -/
def kbest (z : FVec F S128x12800 .f32) (M : FVec F S128x128 .f32) : ℕ → IVec S128x128 32
  | 0 => broadcast S128x128 0#32
  | n + 1 => select (cmpf .oeq (sl z (99 - n)) M) (broadcast S128x128 (BitVec.ofNat 32 (99 - n))) (kbest z M n)

/-- The same descent, keeping the slice's entry of `e`. -/
def ebest (z e : FVec F S128x12800 .f32) (M : FVec F S128x128 .f32) : ℕ → FVec F S128x128 .f32
  | 0 => sl e 0
  | n + 1 => select (cmpf .oeq (sl z (99 - n)) M) (sl e (99 - n)) (ebest z e M n)

/-- The column a slice number stands for, lane by lane, in the block at grid position `i`. -/
def colloc (i : grid0.Coords) (kb : IVec S128x128 32) : IVec S128x128 32 :=
  addi (addi (broadcast S128x128 (Scalar.muli (BitVec.ofNat 32 (i 1).val) 12800#32)) (muli kb (broadcast S128x128 128#32)))
    (iota .tc S128x128 32 [1] iota_S128x128_d1_w32)

/-- The body in short form. -/
def body (i : grid0.Coords) (arg2 : Memref sig .tc .vmem S128x12800 .f32) (harg2 : arg2.IsWhole) (arg3 : Memref sig .tc .vmem S128x12800 .f32) (harg3 : arg3.IsWhole)
    (arg4 : Memref sig .tc .vmem S128x1 .i32) (harg4 : arg4.IsWhole) (arg5 : Memref sig .tc .vmem S128x1 .f32) (harg5 : arg5.IsWhole)
    (arg6 : Memref sig .tc .vmem S128x128 .f32) (harg6 : arg6.IsWhole) (arg7 : Memref sig .tc .vmem S128x128 .i32) (harg7 : arg7.IsWhole)
    (arg8 : Memref sig .tc .vmem S128x128 .f32) (harg8 : arg8.IsWhole) (arg9 : Memref sig .tc .vmem S128x128 .f32) (harg9 : arg9.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v852 : Vec F S128x128 .f32 ← Prog.lift (.load arg6 (Rect.unit (s := S128x128) ![0, 0] S128x128.size inb_S128x128_S128x128_0_0).toLoadRect (View.loadsAt_vmem h_S128x128))
    Prog.lift (.store arg6 (Rect.unit (s := S128x128) ![0, 0] S128x128.size inb_S128x128_S128x128_0_0) (k0_pay7 (F := F)) Finset.univ (View.stores_vmem_bits_univ h_S128x128 rfl) (.inl rfl))
    let v856 : Vec F S128x128 .i32 ← Prog.lift (.load arg7 (Rect.unit (s := S128x128) ![0, 0] S128x128.size inb_S128x128_S128x128_0_0).toLoadRect (View.loadsAt_vmem h_S128x128))
    Prog.lift (.store arg7 (Rect.unit (s := S128x128) ![0, 0] S128x128.size inb_S128x128_S128x128_0_0) k0_pay8 Finset.univ (View.stores_vmem_bits_univ h_S128x128 rfl) (.inl rfl))
    let v860 : Vec F S128x128 .f32 ← Prog.lift (.load arg8 (Rect.unit (s := S128x128) ![0, 0] S128x128.size inb_S128x128_S128x128_0_0).toLoadRect (View.loadsAt_vmem h_S128x128))
    Prog.lift (.store arg8 (Rect.unit (s := S128x128) ![0, 0] S128x128.size inb_S128x128_S128x128_0_0) (k0_pay9 (F := F)) Finset.univ (View.stores_vmem_bits_univ h_S128x128 rfl) (.inl rfl))
    let v864 : Vec F S128x128 .f32 ← Prog.lift (.load arg9 (Rect.unit (s := S128x128) ![0, 0] S128x128.size inb_S128x128_S128x128_0_0).toLoadRect (View.loadsAt_vmem h_S128x128))
    Prog.lift (.store arg9 (Rect.unit (s := S128x128) ![0, 0] S128x128.size inb_S128x128_S128x128_0_0) (k0_pay10 (F := F)) Finset.univ (View.stores_vmem_bits_univ h_S128x128 rfl) (.inl rfl))
    pure ⟨⟩
  else do
    pure ⟨⟩
  let v9 : Vec F S128x12800 .f32 ← Prog.lift (.load arg2 (Rect.unit (s := S128x12800) ![0, 0] S128x12800.size inb_S128x12800_S128x12800_0_0).toLoadRect (View.loadsAt_vmem h_S128x12800))
  let v15 : Vec F S128x12800 .f32 ← Prog.lift (.load arg3 (Rect.unit (s := S128x12800) ![0, 0] S128x12800.size inb_S128x12800_S128x12800_0_0).toLoadRect (View.loadsAt_vmem h_S128x12800))
  let v826 : Vec F S128x128 .f32 ← Prog.lift (.load arg6 (Rect.unit (s := S128x128) ![0, 0] S128x128.size inb_S128x128_S128x128_0_0).toLoadRect (View.loadsAt_vmem h_S128x128))
  let v828 : Vec F S128x128 .f32 ← Prog.lift (.load arg6 (Rect.unit (s := S128x128) ![0, 0] S128x128.size inb_S128x128_S128x128_0_0).toLoadRect (View.loadsAt_vmem h_S128x128))
  let v830 : Vec F S128x128 .f32 ← Prog.lift (.load arg6 (Rect.unit (s := S128x128) ![0, 0] S128x128.size inb_S128x128_S128x128_0_0).toLoadRect (View.loadsAt_vmem h_S128x128))
  Prog.lift (.store arg6 (Rect.unit (s := S128x128) ![0, 0] S128x128.size inb_S128x128_S128x128_0_0) (k0_pay344 (zmax (k0_pay14 i v9 v15) 99) v826 v828) Finset.univ (View.stores_vmem_bits_univ h_S128x128 rfl) (.inl rfl))
  let v833 : Vec F S128x128 .i32 ← Prog.lift (.load arg7 (Rect.unit (s := S128x128) ![0, 0] S128x128.size inb_S128x128_S128x128_0_0).toLoadRect (View.loadsAt_vmem h_S128x128))
  let v835 : Vec F S128x128 .i32 ← Prog.lift (.load arg7 (Rect.unit (s := S128x128) ![0, 0] S128x128.size inb_S128x128_S128x128_0_0).toLoadRect (View.loadsAt_vmem h_S128x128))
  Prog.lift (.store arg7 (Rect.unit (s := S128x128) ![0, 0] S128x128.size inb_S128x128_S128x128_0_0) (k0_pay1 (colloc i (kbest (k0_pay14 i v9 v15) (zmax (k0_pay14 i v9 v15) 99) 100)) (k0_pay343 (zmax (k0_pay14 i v9 v15) 99) v826) v833) Finset.univ (View.stores_vmem_bits_univ h_S128x128 rfl) (.inl rfl))
  let v838 : Vec F S128x128 .f32 ← Prog.lift (.load arg8 (Rect.unit (s := S128x128) ![0, 0] S128x128.size inb_S128x128_S128x128_0_0).toLoadRect (View.loadsAt_vmem h_S128x128))
  let v840 : Vec F S128x128 .f32 ← Prog.lift (.load arg8 (Rect.unit (s := S128x128) ![0, 0] S128x128.size inb_S128x128_S128x128_0_0).toLoadRect (View.loadsAt_vmem h_S128x128))
  Prog.lift (.store arg8 (Rect.unit (s := S128x128) ![0, 0] S128x128.size inb_S128x128_S128x128_0_0) (k0_pay2 (ebest (k0_pay14 i v9 v15) (k0_pay13 i v9) (zmax (k0_pay14 i v9 v15) 99) 100) (k0_pay343 (zmax (k0_pay14 i v9 v15) 99) v826) v838) Finset.univ (View.stores_vmem_bits_univ h_S128x128 rfl) (.inl rfl))
  let v843 : Vec F S128x128 .f32 ← Prog.lift (.load arg9 (Rect.unit (s := S128x128) ![0, 0] S128x128.size inb_S128x128_S128x128_0_0).toLoadRect (View.loadsAt_vmem h_S128x128))
  let v845 : Vec F S128x128 .f32 ← Prog.lift (.load arg9 (Rect.unit (s := S128x128) ![0, 0] S128x128.size inb_S128x128_S128x128_0_0).toLoadRect (View.loadsAt_vmem h_S128x128))
  Prog.lift (.store arg9 (Rect.unit (s := S128x128) ![0, 0] S128x128.size inb_S128x128_S128x128_0_0) (k0_pay3 (esum (k0_pay13 i v9) 99) v843) Finset.univ (View.stores_vmem_bits_univ h_S128x128 rfl) (.inl rfl))
  if k0_h2 : k0_cond2 i = 1#1 then do
    let v851 : Vec F S128x128 .f32 ← Prog.lift (.load arg6 (Rect.unit (s := S128x128) ![0, 0] S128x128.size inb_S128x128_S128x128_0_0).toLoadRect (View.loadsAt_vmem h_S128x128))
    let v854 : Vec F S128x128 .f32 ← Prog.lift (.load arg6 (Rect.unit (s := S128x128) ![0, 0] S128x128.size inb_S128x128_S128x128_0_0).toLoadRect (View.loadsAt_vmem h_S128x128))
    let v857 : Vec F S128x128 .i32 ← Prog.lift (.load arg7 (Rect.unit (s := S128x128) ![0, 0] S128x128.size inb_S128x128_S128x128_0_0).toLoadRect (View.loadsAt_vmem h_S128x128))
    let v862 : Vec F S128x128 .i32 ← Prog.lift (.load arg7 (Rect.unit (s := S128x128) ![0, 0] S128x128.size inb_S128x128_S128x128_0_0).toLoadRect (View.loadsAt_vmem h_S128x128))
    let v866 : Vec F S128x128 .f32 ← Prog.lift (.load arg8 (Rect.unit (s := S128x128) ![0, 0] S128x128.size inb_S128x128_S128x128_0_0).toLoadRect (View.loadsAt_vmem h_S128x128))
    let v871 : Vec F S128x128 .f32 ← Prog.lift (.load arg9 (Rect.unit (s := S128x128) ![0, 0] S128x128.size inb_S128x128_S128x128_0_0).toLoadRect (View.loadsAt_vmem h_S128x128))
    let v874 : Vec F S128x1 .i32 ← Prog.lift (.load arg4 (Rect.unit (s := S128x1) ![0, 0] S128x1.size inb_S128x1_S128x1_0_0).toLoadRect (View.loadsAt_vmem h_S128x1))
    Prog.lift (.store arg4 (Rect.unit (s := S128x1) ![0, 0] S128x1.size inb_S128x1_S128x1_0_0) (k0_pay5 v851 v854 v857) Finset.univ (View.stores_vmem_bits_univ h_S128x1 rfl) (.inl rfl))
    let v876 : Vec F S128x1 .f32 ← Prog.lift (.load arg5 (Rect.unit (s := S128x1) ![0, 0] S128x1.size inb_S128x1_S128x1_0_0).toLoadRect (View.loadsAt_vmem h_S128x1))
    Prog.lift (.store arg5 (Rect.unit (s := S128x1) ![0, 0] S128x1.size inb_S128x1_S128x1_0_0) (k0_pay6 v851 v854 v857 v862 v866 v871) Finset.univ (View.stores_vmem_bits_univ h_S128x1 rfl) (.inl rfl))
    pure ⟨⟩
  else do
    pure ⟨⟩
  pure ⟨⟩

/-- The printed body is the short one. -/
theorem body_eq (i : grid0.Coords) (arg2 : Memref sig .tc .vmem S128x12800 .f32) (harg2 : arg2.IsWhole) (arg3 : Memref sig .tc .vmem S128x12800 .f32) (harg3 : arg3.IsWhole)
    (arg4 : Memref sig .tc .vmem S128x1 .i32) (harg4 : arg4.IsWhole) (arg5 : Memref sig .tc .vmem S128x1 .f32) (harg5 : arg5.IsWhole)
    (arg6 : Memref sig .tc .vmem S128x128 .f32) (harg6 : arg6.IsWhole) (arg7 : Memref sig .tc .vmem S128x128 .i32) (harg7 : arg7.IsWhole)
    (arg8 : Memref sig .tc .vmem S128x128 .f32) (harg8 : arg8.IsWhole) (arg9 : Memref sig .tc .vmem S128x128 .f32) (harg9 : arg9.IsWhole) :
    cc0__sweep_kernel (F := F) i arg2 harg2 arg3 harg3 arg4 harg4 arg5 harg5 arg6 harg6 arg7 harg7 arg8 harg8 arg9 harg9 = body i arg2 harg2 arg3 harg3 arg4 harg4 arg5 harg5 arg6 harg6 arg7 harg7 arg8 harg8 arg9 harg9 := by
  rw [cc0__sweep_kernel_eq_skeleton]
  unfold cc0__sweep_kernel_skel body
  rw [k0_part1_eq_skeleton]
  unfold k0_part1_skel
  by_cases h : Scalar.cmpi .ne (Scalar.extui (Scalar.cmpi .eq (BitVec.ofNat 32 (i 1).val) 0#32) : BitVec 32) 0#32 = 1#1
  · rw [dif_pos h, dif_pos h]
    rfl
  · rw [dif_neg h, dif_neg h]
    rfl

end Cert.KernelIdeal.Sweep

end
-- ==== Proof.Body.lean ====
/-
  What one visit of the body does to its buffers: the two staged blocks are read and kept, the four accumulators are
  folded once, and at the last grid position the two results are written.
-/
module

public import proofs.«01_k».proof.Proof.Sweep
public import proofs.«01_k».proof.Proof.Gen.KernelIdeal.Frame
public import Idealize.ShloMosaic.Lib.Exec
public import Idealize.ShloMosaic.Lib.VecWindow
public import Idealize.ShloMosaic.Lib.Tactic

@[expose] public section

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The four accumulators: the best score per lane, its column, its exponential, and the sum of exponentials. -/
structure Acc (F : FTy → Type) where
  z : FVec F S128x128 .f32
  c : IVec S128x128 32
  e : FVec F S128x128 .f32
  s : FVec F S128x128 .f32

/-- The accumulators before the first block. -/
def start : Acc F := ⟨k0_pay7, k0_pay8, k0_pay9, k0_pay10⟩

/-- One block folded in: its masked scores `z` and masked exponentials `e`, over what the accumulators held. -/
def fold (i : grid0.Coords) (z e : FVec F S128x12800 .f32) (a : Acc F) : Acc F where
  z := k0_pay344 (zmax z 99) a.z a.z
  c := k0_pay1 (F := F) (colloc i (kbest z (zmax z 99) 100)) (k0_pay343 (zmax z 99) a.z) a.c
  e := k0_pay2 (ebest z e (zmax z 99) 100) (k0_pay343 (zmax z 99) a.z) a.e
  s := k0_pay3 (esum e 99) a.s

/-- The column result and the quotient result, from the accumulators. -/
def outCol (a : Acc F) : IVec S128x1 32 := k0_pay5 a.z a.z a.c
def outVal (a : Acc F) : FVec F S128x1 .f32 := k0_pay6 a.z a.z a.c a.c a.e a.s

/-- The first visit's condition and the last one's. -/
abbrev isFirst (i : grid0.Coords) : Prop :=
  Scalar.cmpi .ne (Scalar.extui (Scalar.cmpi .eq (BitVec.ofNat 32 (i 1).val) 0#32) : BitVec 32) 0#32 = 1#1
abbrev isLast (i : grid0.Coords) : Prop := k0_cond2 i = 1#1

/-- What a visit finds in the accumulators once it has reset them at the first position. -/
def entry (i : grid0.Coords) (a : Acc F) : Acc F := if isFirst i then start else a

theorem read_whole {sp : Space} {s : Shape} {e : EltTy} {m : Memref sig .tc sp s e} (h : m.IsWhole) (X : s.Idx → Elt F e)
    {off : Fin s.rank → ℕ} (inb : ∀ a, off a + s.size a ≤ s.size a) :
    m.view.readAt (Elt F) (Rect.unit off s.size inb).toLoadRect (h.unread X) = X := by
  rw [View.readAt_full, h.read_unread]

/-- The accumulators' buffers hold `a`. -/
abbrev holds (c : Dev nD) (arg6 : Memref sig .tc .vmem S128x128 .f32) (arg7 : Memref sig .tc .vmem S128x128 .i32)
    (arg8 : Memref sig .tc .vmem S128x128 .f32) (arg9 : Memref sig .tc .vmem S128x128 .f32) (a : Acc F) : sProp 𝕄 :=
  iprop(owns (c : Thread nD τ) arg6 fullShare a.z ∗ owns (c : Thread nD τ) arg7 fullShare a.c
    ∗ owns (c : Thread nD τ) arg8 fullShare a.e ∗ owns (c : Thread nD τ) arg9 fullShare a.s)

set_option maxHeartbeats 1600000 in
/-- A visit neither first nor last: the accumulators are folded, the results' buffers stay. -/
theorem triple_mid (c : Dev nD) (i : grid0.Coords) (arg2 : Memref sig .tc .vmem S128x12800 .f32) (harg2 : arg2.IsWhole) (arg3 : Memref sig .tc .vmem S128x12800 .f32) (harg3 : arg3.IsWhole)
    (arg4 : Memref sig .tc .vmem S128x1 .i32) (harg4 : arg4.IsWhole) (arg5 : Memref sig .tc .vmem S128x1 .f32) (harg5 : arg5.IsWhole)
    (arg6 : Memref sig .tc .vmem S128x128 .f32) (harg6 : arg6.IsWhole) (arg7 : Memref sig .tc .vmem S128x128 .i32) (harg7 : arg7.IsWhole)
    (arg8 : Memref sig .tc .vmem S128x128 .f32) (harg8 : arg8.IsWhole) (arg9 : Memref sig .tc .vmem S128x128 .f32) (harg9 : arg9.IsWhole)
    (h0 : ¬isFirst i) (h1 : ¬isLast i) (x0 x1 : FVec F S128x12800 .f32) (o4 : Vec F S128x1 .i32) (o5 : Vec F S128x1 .f32) (a : Acc F)
    (E : Set ℕ) (K : PUnit → sProp 𝕄) :
    iprop(owns (c : Thread nD τ) arg2 fullShare x0 ∗ owns (c : Thread nD τ) arg3 fullShare x1 ∗ owns (c : Thread nD τ) arg4 fullShare o4
        ∗ owns (c : Thread nD τ) arg5 fullShare o5 ∗ holds c arg6 arg7 arg8 arg9 a
        ∗ (iprop(owns (c : Thread nD τ) arg2 fullShare x0 ∗ owns (c : Thread nD τ) arg3 fullShare x1 ∗ owns (c : Thread nD τ) arg4 fullShare o4
            ∗ owns (c : Thread nD τ) arg5 fullShare o5
            ∗ holds c arg6 arg7 arg8 arg9 (fold i (k0_pay14 i x0 x1) (k0_pay13 i x0) a)) -∗ K ⟨⟩))
      ⊢ wp frame (wpE (defs₀ (F := F)) Variants.none c none) E
          (cc0__sweep_kernel i arg2 harg2 arg3 harg3 arg4 harg4 arg5 harg5 arg6 harg6 arg7 harg7 arg8 harg8 arg9 harg9) K := by
  rw [body_eq]; unfold body holds owns
  iintro ⟨⟨%f0, %hf0, H0⟩, ⟨%f1, %hf1, H1⟩, ⟨%f2, %hf2, H2⟩, ⟨%f3, %hf3, H3⟩, ⟨⟨%f4, %hf4, H4⟩, ⟨%f5, %hf5, H5⟩, ⟨%f6, %hf6, H6⟩, ⟨%f7, %hf7, H7⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | sl_exact h0 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; refine (View.read_writes_full _ _ _ _ _).trans ?_
    rw [read_whole harg2, read_whole harg3, read_whole harg6]; rfl
  isplitl [H5]
  · iexists _; isplitr
    swap; · iexact H5
    ipureintro; refine (View.read_writes_full _ _ _ _ _).trans ?_
    rw [read_whole harg2, read_whole harg3, read_whole harg6, read_whole harg7]; rfl
  isplitl [H6]
  · iexists _; isplitr
    swap; · iexact H6
    ipureintro; refine (View.read_writes_full _ _ _ _ _).trans ?_
    rw [read_whole harg2, read_whole harg3, read_whole harg6, read_whole harg8]; rfl
  iexists _; isplitr
  swap; · iexact H7
  ipureintro; refine (View.read_writes_full _ _ _ _ _).trans ?_
  rw [read_whole harg2, read_whole harg9]; rfl

set_option maxHeartbeats 1600000 in
/-- The first visit: whatever the accumulators held is reset, then folded. -/
theorem triple_first (c : Dev nD) (i : grid0.Coords) (arg2 : Memref sig .tc .vmem S128x12800 .f32) (harg2 : arg2.IsWhole) (arg3 : Memref sig .tc .vmem S128x12800 .f32) (harg3 : arg3.IsWhole)
    (arg4 : Memref sig .tc .vmem S128x1 .i32) (harg4 : arg4.IsWhole) (arg5 : Memref sig .tc .vmem S128x1 .f32) (harg5 : arg5.IsWhole)
    (arg6 : Memref sig .tc .vmem S128x128 .f32) (harg6 : arg6.IsWhole) (arg7 : Memref sig .tc .vmem S128x128 .i32) (harg7 : arg7.IsWhole)
    (arg8 : Memref sig .tc .vmem S128x128 .f32) (harg8 : arg8.IsWhole) (arg9 : Memref sig .tc .vmem S128x128 .f32) (harg9 : arg9.IsWhole)
    (h0 : isFirst i) (h1 : ¬isLast i) (x0 x1 : FVec F S128x12800 .f32) (o4 : Vec F S128x1 .i32) (o5 : Vec F S128x1 .f32) (a : Acc F)
    (E : Set ℕ) (K : PUnit → sProp 𝕄) :
    iprop(owns (c : Thread nD τ) arg2 fullShare x0 ∗ owns (c : Thread nD τ) arg3 fullShare x1 ∗ owns (c : Thread nD τ) arg4 fullShare o4
        ∗ owns (c : Thread nD τ) arg5 fullShare o5 ∗ holds c arg6 arg7 arg8 arg9 a
        ∗ (iprop(owns (c : Thread nD τ) arg2 fullShare x0 ∗ owns (c : Thread nD τ) arg3 fullShare x1 ∗ owns (c : Thread nD τ) arg4 fullShare o4
            ∗ owns (c : Thread nD τ) arg5 fullShare o5
            ∗ holds c arg6 arg7 arg8 arg9 (fold i (k0_pay14 i x0 x1) (k0_pay13 i x0) start)) -∗ K ⟨⟩))
      ⊢ wp frame (wpE (defs₀ (F := F)) Variants.none c none) E
          (cc0__sweep_kernel i arg2 harg2 arg3 harg3 arg4 harg4 arg5 harg5 arg6 harg6 arg7 harg7 arg8 harg8 arg9 harg9) K := by
  rw [body_eq]; unfold body holds owns
  iintro ⟨⟨%f0, %hf0, H0⟩, ⟨%f1, %hf1, H1⟩, ⟨%f2, %hf2, H2⟩, ⟨%f3, %hf3, H3⟩, ⟨⟨%f4, %hf4, H4⟩, ⟨%f5, %hf5, H5⟩, ⟨%f6, %hf6, H6⟩, ⟨%f7, %hf7, H7⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | sl_exact h0 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; refine (View.read_writes_full _ _ _ _ _).trans ?_
    rw [read_whole harg2, read_whole harg3]; unfold triple_first.sl.v826 triple_first.sl.H4_1; rw [View.readCov_full]; rfl
  isplitl [H5]
  · iexists _; isplitr
    swap; · iexact H5
    ipureintro; refine (View.read_writes_full _ _ _ _ _).trans ?_
    rw [read_whole harg2, read_whole harg3]; unfold triple_first.sl.v826 triple_first.sl.v833 triple_first.sl.H4_1 triple_first.sl.H5_1; rw [View.readCov_full, View.readCov_full]; rfl
  isplitl [H6]
  · iexists _; isplitr
    swap; · iexact H6
    ipureintro; refine (View.read_writes_full _ _ _ _ _).trans ?_
    rw [read_whole harg2, read_whole harg3]; unfold triple_first.sl.v826 triple_first.sl.v838 triple_first.sl.H4_1 triple_first.sl.H6_1; rw [View.readCov_full, View.readCov_full]; rfl
  iexists _; isplitr
  swap; · iexact H7
  ipureintro; refine (View.read_writes_full _ _ _ _ _).trans ?_
  rw [read_whole harg2]; unfold triple_first.sl.v843 triple_first.sl.H7_1; rw [View.readCov_full]; rfl

set_option maxHeartbeats 1600000 in
/-- The last visit: the accumulators are folded and the results written from them. -/
theorem triple_last (c : Dev nD) (i : grid0.Coords) (arg2 : Memref sig .tc .vmem S128x12800 .f32) (harg2 : arg2.IsWhole) (arg3 : Memref sig .tc .vmem S128x12800 .f32) (harg3 : arg3.IsWhole)
    (arg4 : Memref sig .tc .vmem S128x1 .i32) (harg4 : arg4.IsWhole) (arg5 : Memref sig .tc .vmem S128x1 .f32) (harg5 : arg5.IsWhole)
    (arg6 : Memref sig .tc .vmem S128x128 .f32) (harg6 : arg6.IsWhole) (arg7 : Memref sig .tc .vmem S128x128 .i32) (harg7 : arg7.IsWhole)
    (arg8 : Memref sig .tc .vmem S128x128 .f32) (harg8 : arg8.IsWhole) (arg9 : Memref sig .tc .vmem S128x128 .f32) (harg9 : arg9.IsWhole)
    (h0 : ¬isFirst i) (h1 : isLast i) (x0 x1 : FVec F S128x12800 .f32) (o4 : Vec F S128x1 .i32) (o5 : Vec F S128x1 .f32) (a : Acc F)
    (E : Set ℕ) (K : PUnit → sProp 𝕄) :
    iprop(owns (c : Thread nD τ) arg2 fullShare x0 ∗ owns (c : Thread nD τ) arg3 fullShare x1 ∗ owns (c : Thread nD τ) arg4 fullShare o4
        ∗ owns (c : Thread nD τ) arg5 fullShare o5 ∗ holds c arg6 arg7 arg8 arg9 a
        ∗ (iprop(owns (c : Thread nD τ) arg2 fullShare x0 ∗ owns (c : Thread nD τ) arg3 fullShare x1 ∗ owns (c : Thread nD τ) arg4 fullShare (outCol (fold i (k0_pay14 i x0 x1) (k0_pay13 i x0) a))
            ∗ owns (c : Thread nD τ) arg5 fullShare (outVal (fold i (k0_pay14 i x0 x1) (k0_pay13 i x0) a))
            ∗ holds c arg6 arg7 arg8 arg9 (fold i (k0_pay14 i x0 x1) (k0_pay13 i x0) a)) -∗ K ⟨⟩))
      ⊢ wp frame (wpE (defs₀ (F := F)) Variants.none c none) E
          (cc0__sweep_kernel i arg2 harg2 arg3 harg3 arg4 harg4 arg5 harg5 arg6 harg6 arg7 harg7 arg8 harg8 arg9 harg9) K := by
  rw [body_eq]; unfold body holds owns
  iintro ⟨⟨%f0, %hf0, H0⟩, ⟨%f1, %hf1, H1⟩, ⟨%f2, %hf2, H2⟩, ⟨%f3, %hf3, H3⟩, ⟨⟨%f4, %hf4, H4⟩, ⟨%f5, %hf5, H5⟩, ⟨%f6, %hf6, H6⟩, ⟨%f7, %hf7, H7⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | sl_exact h0 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro; refine (View.read_writes_full _ _ _ _ _).trans ?_
    unfold triple_last.sl.v851 triple_last.sl.v857 triple_last.sl.H4_1 triple_last.sl.H5_1
    rw [View.readCov_full, View.readCov_full, read_whole harg2, read_whole harg3, read_whole harg6,
      read_whole harg7]; rfl
  isplitl [H3]
  · iexists _; isplitr
    swap; · iexact H3
    ipureintro; refine (View.read_writes_full _ _ _ _ _).trans ?_
    unfold triple_last.sl.v851 triple_last.sl.v857 triple_last.sl.v866 triple_last.sl.v871
      triple_last.sl.H4_1 triple_last.sl.H5_1 triple_last.sl.H6_1 triple_last.sl.H7_1
    rw [View.readCov_full, View.readCov_full, View.readCov_full, View.readCov_full,
      read_whole harg2, read_whole harg3, read_whole harg6, read_whole harg7, read_whole harg8,
      read_whole harg9]; rfl
  isplitl [H4]
  · iexists _; isplitr
    swap; · iexact H4
    ipureintro; refine (View.read_writes_full _ _ _ _ _).trans ?_
    rw [read_whole harg2, read_whole harg3, read_whole harg6]; rfl
  isplitl [H5]
  · iexists _; isplitr
    swap; · iexact H5
    ipureintro; refine (View.read_writes_full _ _ _ _ _).trans ?_
    rw [read_whole harg2, read_whole harg3, read_whole harg6, read_whole harg7]; rfl
  isplitl [H6]
  · iexists _; isplitr
    swap; · iexact H6
    ipureintro; refine (View.read_writes_full _ _ _ _ _).trans ?_
    rw [read_whole harg2, read_whole harg3, read_whole harg6, read_whole harg8]; rfl
  iexists _; isplitr
  swap; · iexact H7
  ipureintro; refine (View.read_writes_full _ _ _ _ _).trans ?_
  rw [read_whole harg2, read_whole harg9]; rfl

end Cert.KernelIdeal.Sweep

end
-- ==== Proof.Run.lean ====
/-
  The whole run of the launch: the accumulators point by point, what each staging buffer holds after the body, and
  every visit discharged by the body's triples. The last column block overhangs the array; the body reads nothing of
  the overhang, so what the buffers hold there is never named.
-/
module

public import proofs.«01_k».proof.Proof.Body
public import Idealize.ShloMosaic.Lib.Pipeline.Value
public import Idealize.ShloMosaic.Lib.Claim

@[expose] public section

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The overhang is masked -/

theorem coord1 (t : Fin cfg0.N) : (grid0.coords t 1).val = t.val :=
  (show (grid0.coords t 1).val = t.val / 1 % 8 from Pipeline.Grid.coords_val t 1 (by decide) rfl).trans (by
    have : t.val < 8 := Nat.lt_of_lt_of_eq t.isLt N_0
    omega)

/-- The mask is on exactly at the array's columns. -/
theorem live_iff (t : Fin cfg0.N) (j : S128x12800.Idx) :
    k0_pay11 (grid0.coords t) j = 1#1 ↔ 12800 * t.val + (j 1).val < 100000 := by
  have ht : t.val < 8 := Nat.lt_of_lt_of_eq t.isLt N_0
  have hj : (j 1).val < 12800 := (j 1).isLt
  have e : k0_pay11 (grid0.coords t) j
      = IntOp.cmpi .slt (IntOp.addi (Scalar.muli (BitVec.ofNat 32 (grid0.coords t 1).val) 12800#32) (iota .tc S128x12800 32 [1] iota_S128x12800_d1_w32 j)) 100000#32 := rfl
  rw [e, show iota .tc S128x12800 32 [1] iota_S128x12800_d1_w32 j = BitVec.ofNat 32 (j 1).val by simp [iota], coord1]
  rw [show IntOp.addi (Scalar.muli (BitVec.ofNat 32 t.val) 12800#32) (BitVec.ofNat 32 (j 1).val) = BitVec.ofNat 32 (12800 * t.val + (j 1).val) from by
    apply BitVec.eq_of_toNat_eq
    simp only [IntOp.addi, Scalar.muli, IntOp.muli, BitVec.toNat_add, BitVec.toNat_mul, BitVec.toNat_ofNat]
    omega]
  word_cmp

theorem xsize_0 : ∀ t : Fin cfg0.N, ∀ a, win0_0.xsize (grid0.coords t) a = ![128, if t.val = 7 then 10400 else 12800] a := by
  decide +kernel
theorem xsize_1 : ∀ t : Fin cfg0.N, ∀ a, win0_1.xsize (grid0.coords t) a = ![128, if t.val = 7 then 10400 else 12800] a := by
  decide +kernel

/-- A place the transfer does not reach lies past the array's last column. -/
theorem past_0 (t : Fin cfg0.N) (j : S128x12800.Idx) (h : ¬ win0_0.moved (grid0.coords t) j = true) :
    ¬ 12800 * t.val + (j 1).val < 100000 := fun hlt => h ((win0_0.moved_iff _ j).mpr fun a => by
  have hj : (j 1).val < 12800 := (j 1).isLt
  rw [xsize_0]
  match a with
  | 0 => exact (j 0).isLt
  | 1 => show (j 1).val < if t.val = 7 then 10400 else 12800; split <;> omega)
theorem past_1 (t : Fin cfg0.N) (j : S128x12800.Idx) (h : ¬ win0_1.moved (grid0.coords t) j = true) :
    ¬ 12800 * t.val + (j 1).val < 100000 := fun hlt => h ((win0_1.moved_iff _ j).mpr fun a => by
  have hj : (j 1).val < 12800 := (j 1).isLt
  rw [xsize_1]
  match a with
  | 0 => exact (j 0).isLt
  | 1 => show (j 1).val < if t.val = 7 then 10400 else 12800; split <;> omega)

/-- The two staged blocks filled out past the array's edge with zeros: the fixed contents the proof names. -/
def qblk (c : Dev nD) (t : Fin cfg0.N) : S128x12800.Idx → Elt F .f32 :=
  win0_0.fill (grid0.coords t) (fun _ => Scalar.ofBits .f32 0#32) (iblk m c 0 t)
def gblk (c : Dev nD) (t : Fin cfg0.N) : S128x12800.Idx → Elt F .f32 :=
  win0_1.fill (grid0.coords t) (fun _ => Scalar.ofBits .f32 0#32) (iblk m c 1 t)

/-- The masked exponentials and scores of block `t`. -/
def eblk (c : Dev nD) (t : Fin cfg0.N) : FVec F S128x12800 .f32 := k0_pay13 (grid0.coords t) (qblk m c t)
def zblk (c : Dev nD) (t : Fin cfg0.N) : FVec F S128x12800 .f32 := k0_pay14 (grid0.coords t) (qblk m c t) (gblk m c t)

/-- Two filled-out blocks agree wherever the mask is on. -/
theorem fill_0 (c : Dev nD) (t : Fin cfg0.N) (j : S128x12800.Idx) (h : k0_pay11 (grid0.coords t) j = 1#1) (d : S128x12800.Idx → Elt F .f32) :
    win0_0.fill (grid0.coords t) d (iblk m c 0 t) j = qblk m c t j := by
  have hm : win0_0.moved (grid0.coords t) j = true := by_contra fun hm => past_0 t j hm ((live_iff t j).mp h)
  unfold qblk Window.fill; rw [dif_pos hm, dif_pos hm]
theorem fill_1 (c : Dev nD) (t : Fin cfg0.N) (j : S128x12800.Idx) (h : k0_pay11 (grid0.coords t) j = 1#1) (d : S128x12800.Idx → Elt F .f32) :
    win0_1.fill (grid0.coords t) d (iblk m c 1 t) j = gblk m c t j := by
  have hm : win0_1.moved (grid0.coords t) j = true := by_contra fun hm => past_1 t j hm ((live_iff t j).mp h)
  unfold gblk Window.fill; rw [dif_pos hm, dif_pos hm]

/-- A payload under the mask reads nothing of the overhang. -/
theorem eblk_of (c : Dev nD) (t : Fin cfg0.N) (d : S128x12800.Idx → Elt F .f32) :
    k0_pay13 (grid0.coords t) (win0_0.fill (grid0.coords t) d (iblk m c 0 t)) = eblk m c t := by
  funext j
  unfold eblk k0_pay13 k0_pay12
  simp only [select, exp, mulf]
  by_cases h : k0_pay11 (grid0.coords t) j = 1#1
  · rw [fill_0 m c t j h d]
  · exact (if_neg h).trans (if_neg h).symm
theorem zblk_of (c : Dev nD) (t : Fin cfg0.N) (d d' : S128x12800.Idx → Elt F .f32) :
    k0_pay14 (grid0.coords t) (win0_0.fill (grid0.coords t) d (iblk m c 0 t)) (win0_1.fill (grid0.coords t) d' (iblk m c 1 t)) = zblk m c t := by
  funext j
  unfold zblk k0_pay14 k0_pay12
  simp only [select, addf, mulf, shapeCast_self]
  by_cases h : k0_pay11 (grid0.coords t) j = 1#1
  · rw [fill_0 m c t j h d, fill_1 m c t j h d']
  · exact (if_neg h).trans (if_neg h).symm

/-! ## Point by point -/

/-- The accumulators after `n` visits. -/
def accAt (c : Dev nD) : ℕ → Acc F
  | 0 => start
  | n + 1 => if h : n < cfg0.N then fold (grid0.coords ⟨n, h⟩) (zblk m c ⟨n, h⟩) (eblk m c ⟨n, h⟩) (accAt c n) else accAt c n

theorem accAt_succ (c : Dev nD) (t : Fin cfg0.N) :
    accAt m c (t.val + 1) = fold (grid0.coords t) (zblk m c t) (eblk m c t) (accAt m c t.val) := by
  rw [accAt, dif_pos t.isLt]

/-- The accumulators' buffers hold `a`, and the generator register is at some state. -/
abbrev scratchAt (c : Dev nD) (a : Acc F) : sProp 𝕄 :=
  iprop(holds c (Memref.whole cc0_scratch0) (Memref.whole cc0_scratch1) (Memref.whole cc0_scratch2) (Memref.whole cc0_scratch3) a
    ∗ (∃ r, prngReg c r))

/-- The invariant: before the first visit the accumulators hold anything, afterwards what the visits so far left. -/
def Inv (c : Dev nD) : ℕ → sProp 𝕄
  | 0 => Pipeline.ΦA spec0 c
  | n + 1 => scratchAt c (accAt m c (n + 1))

theorem scratch_any (c : Dev nD) :
    (Pipeline.ΦA spec0 c : sProp 𝕄)
      = iprop(iprop((∃ d, owns (c : Thread nD τ) (Memref.whole cc0_scratch0 : Memref sig .tc .vmem S128x128 .f32) fullShare d)
          ∗ (∃ d, owns (c : Thread nD τ) (Memref.whole cc0_scratch1 : Memref sig .tc .vmem S128x128 .i32) fullShare d)
          ∗ (∃ d, owns (c : Thread nD τ) (Memref.whole cc0_scratch2 : Memref sig .tc .vmem S128x128 .f32) fullShare d)
          ∗ (∃ d, owns (c : Thread nD τ) (Memref.whole cc0_scratch3 : Memref sig .tc .vmem S128x128 .f32) fullShare d)) ∗ (∃ r, prngReg c r)) := by
  unfold Pipeline.ΦA; rw [scopedRest0_eq]; simp only [owns_whole]; try rfl

/-- The proof data: the inputs' buffers keep their blocks, the results' hold the finish of the accumulators so far
    (read only after the last visit). -/
def dats (_ : Fin 1) (c : Dev nD) : Dat τ (Elt F) Unit ℕ (UR sig nD τ) ℕ cfg0 c where
  A w := V m c (Pipeline.arrRef spec0 w)
  after w t := match w with
    | ⟨0, _⟩ => qblk m c t
    | ⟨1, _⟩ => gblk m c t
    | ⟨2, _⟩ => outCol (accAt m c (t.val + 1))
    | ⟨3, _⟩ => outVal (accAt m c (t.val + 1))
  Φ t := Inv m c t.val
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) :
    (dats m 0 c).before (0 : Fin 4) t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before (1 : Fin 4) t d = win0_1.fill (grid0.coords t) d (iblk m c 1 t) := by
  unfold Dat.before; rw [if_pos (fetch0_1 t)]; unfold Dat.fetched Dat.blockOf iblk; rw [A_eq]

theorem after_0 (c : Dev nD) (t : Fin cfg0.N) : (dats m 0 c).after 0 t = qblk m c t := by dsimp only [dats]
theorem after_1 (c : Dev nD) (t : Fin cfg0.N) : (dats m 0 c).after 1 t = gblk m c t := by dsimp only [dats]
theorem after_2 (c : Dev nD) (t : Fin cfg0.N) : (dats m 0 c).after 2 t = outCol (accAt m c (t.val + 1)) := by dsimp only [dats]
theorem after_3 (c : Dev nD) (t : Fin cfg0.N) : (dats m 0 c).after 3 t = outVal (accAt m c (t.val + 1)) := by dsimp only [dats]

/-! ## Where the conditions hold -/

theorem first_iff (t : Fin cfg0.N) : isFirst (grid0.coords t) ↔ t.val = 0 := by
  have ht : t.val < 8 := Nat.lt_of_lt_of_eq t.isLt N_0
  rw [show t.val = 0 ↔ t.val % 8 = 0 by omega]
  simp only [isFirst, coord1]
  word_cmp
theorem last_iff (t : Fin cfg0.N) : isLast (grid0.coords t) ↔ t.val = 7 := by
  have ht : t.val < 8 := Nat.lt_of_lt_of_eq t.isLt N_0
  rw [show t.val = 7 ↔ t.val % 8 = 7 by omega]
  simp only [isLast, k0_cond2, coord1]
  word_cmp

theorem idle_2 : ∀ t : Fin cfg0.N, ¬isLast (grid0.coords t) → cfg0.idle 2 (grid0.coords t) = true := by decide +kernel
theorem idle_3 : ∀ t : Fin cfg0.N, ¬isLast (grid0.coords t) → cfg0.idle 3 (grid0.coords t) = true := by decide +kernel
theorem noFlush_2 : ∀ t : Fin cfg0.N, ¬isLast (grid0.coords t) → (cfg0.win 2).flush t = false := by decide +kernel
theorem noFlush_3 : ∀ t : Fin cfg0.N, ¬isLast (grid0.coords t) → (cfg0.win 3).flush t = false := by decide +kernel
theorem live_2 : ∀ t : Fin cfg0.N, isLast (grid0.coords t) → cfg0.idle 2 (grid0.coords t) = false := by decide +kernel
theorem live_3 : ∀ t : Fin cfg0.N, isLast (grid0.coords t) → cfg0.idle 3 (grid0.coords t) = false := by decide +kernel

/-! ## The body's obligation -/

theorem Inv_pos (c : Dev nD) (t : Fin cfg0.N) (h : t.val ≠ 0) : (dats m 0 c).Φ t.castSucc = scratchAt c (accAt m c t.val) := by
  rw [show (dats m 0 c).Φ t.castSucc = Inv m c t.val from rfl]
  cases h' : t.val with
  | zero => exact absurd h' h
  | succ n => rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  simp only
  rw [show (dats m 0 c).owesAt () t.succ = (dats m 0 c).owesAt () t.castSucc from rfl,
    show (dats m 0 c).Φ t.succ = scratchAt c (accAt m c (t.val + 1)) from rfl, accAt_succ,
    after_2, after_3, accAt_succ]
  have give_0 : ∀ d, (win0 0).fill (grid0.coords t) d ((win0 0).cut (grid0.coords t) ((dats m 0 c).after 0 t))
      = win0_0.fill (grid0.coords t) d (iblk m c 0 t) := fun d => by
    rw [after_0]; exact congrArg _ (win0_0.cut_fill _ _ _)
  have give_1 : ∀ d, (win0 1).fill (grid0.coords t) d ((win0 1).cut (grid0.coords t) ((dats m 0 c).after 1 t))
      = win0_1.fill (grid0.coords t) d (iblk m c 1 t) := fun d => by
    rw [after_1]; exact congrArg _ (win0_1.cut_fill _ _ _)
  simp only [give_0, give_1, before_0, before_1]
  by_cases h1 : isLast (grid0.coords t)
  · have ht : t.val = 7 := (last_iff t).mp h1
    have h0 : ¬isFirst (grid0.coords t) := fun h => by have := (first_iff t).mp h; omega
    rw [show idle0 2 (grid0.coords t) = false from live_2 t h1,
      Inv_pos m c t (by omega)]
    iintro ⟨⟨HS, Hg⟩, Ho, ⟨%d0, H0⟩, ⟨%d1, H1⟩, ⟨%d2, H2⟩, ⟨%d3, H3⟩⟩
    iapply (triple_last c (grid0.coords t) _ _ _ _ _ _ _ _ _ _ _ _ _ _ _ _ h0 h1 _ _ _ _ (accAt m c t.val) Set.univ _)
    rw [zblk_of, eblk_of]
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexists d0; iexact H0
    isplitl [H1]; · iexists d1; iexact H1
    isplitl [H2]; · iexact H2
    iexact H3
  · rw [show idle0 2 (grid0.coords t) = true from idle_2 t h1,
      show (win0 2).flush t = false from noFlush_2 t h1, show (win0 3).flush t = false from noFlush_3 t h1]
    by_cases h0 : isFirst (grid0.coords t)
    · have ht : t.val = 0 := (first_iff t).mp h0
      rw [show (dats m 0 c).Φ t.castSucc = Inv m c t.val from rfl, ht, show Inv m c 0 = Pipeline.ΦA spec0 c from rfl, scratch_any]
      iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩⟩
      iapply (triple_first c (grid0.coords t) _ _ _ _ _ _ _ _ _ _ _ _ _ _ _ _ h0 h1 _ _ _ _ ⟨s0, s1, s2, s3⟩ Set.univ _)
      rw [zblk_of, eblk_of]
      isplitl [H0]; · iexact H0
      isplitl [H1]; · iexact H1
      isplitl [H2]; · iexact H2
      isplitl [H3]; · iexact H3
      isplitl [HS0 HS1 HS2 HS3]
      · isplitl [HS0]; · iexact HS0
        isplitl [HS1]; · iexact HS1
        isplitl [HS2]; · iexact HS2
        iexact HS3
      iintro ⟨H0, H1, H2, H3, HS⟩
      isplitl [HS Hg]
      · isplitl [HS]; · iexact HS
        iexact Hg
      isplitl [Ho]; · iexact Ho
      isplitl [H0]; · iexists d0; iexact H0
      isplitl [H1]; · iexists d1; iexact H1
      isplitl [H2]; · iexists _; iexact H2
      iexists _; iexact H3
    · have ht : t.val ≠ 0 := fun h => h0 ((first_iff t).mpr h)
      rw [Inv_pos m c t ht]
      iintro ⟨⟨HS, Hg⟩, Ho, ⟨%d0, H0⟩, ⟨%d1, H1⟩, ⟨%d2, H2⟩, ⟨%d3, H3⟩⟩
      iapply (triple_mid c (grid0.coords t) _ _ _ _ _ _ _ _ _ _ _ _ _ _ _ _ h0 h1 _ _ _ _ (accAt m c t.val) Set.univ _)
      rw [zblk_of, eblk_of]
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexists d0; iexact H0
      isplitl [H1]; · iexists d1; iexact H1
      isplitl [H2]; · iexists _; iexact H2
      iexists _; iexact H3

/-! ## The launch -/

theorem hin (c : Dev nD) : Pipeline.ΦA spec0 c ⊢ (dats m 0 c).Φ 0 := by
  rw [show (dats m 0 c).Φ 0 = Pipeline.ΦA spec0 c from rfl]
  try exact Idealize.SL.BI.Entails.refl _

/-- After the last visit the accumulators' contents are forgotten. -/
theorem hout (c : Dev nD) : (dats m 0 c).Φ (Fin.last cfg0.N) ⊢ Pipeline.ΦA spec0 c := by
  rw [show (dats m 0 c).Φ (Fin.last cfg0.N) = Inv m c 8 from rfl, show Inv m c 8 = scratchAt c (accAt m c 8) from rfl, scratch_any]
  unfold scratchAt holds
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- Every execution ends, with the arrays at what the proof data computes and every semaphore at zero. -/
theorem run_quiet : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The argument ends as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_quiet m ρ))

end Cert.KernelIdeal.Sweep

end
-- ==== Proof.RefOps.lean ====
/-
  The reference as a list of host operations: twenty rounds of the counter generator in five groups of four, before
  them the softmax and the counters, after them the noise, the largest column and its probability.
-/
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.Tactic

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.Tactic Idealize.ShloMosaic.StableHlo
open Idealize.SL Idealize.SL.Sem

variable {F : FTy → Type} [FloatOps F]

abbrev Tab : Type := TRef sig ⟨S128x100000, .i32⟩
abbrev Wrd : Type := TRef sig ⟨S_, .i32⟩
abbrev FltOf (F : FTy → Type) : Type := (⟨S128x100000, .f32⟩ : BufTy).Contents (Elt F)
abbrev IntOf (F : FTy → Type) : Type := (⟨S128x100000, .i32⟩ : BufTy).Contents (Elt F)
abbrev FltS (F : FTy → Type) : Type := (⟨S_, .f32⟩ : BufTy).Contents (Elt F)
abbrev IntS (F : FTy → Type) : Type := (⟨S_, .i32⟩ : BufTy).Contents (Elt F)
local notation "Ops" => List (HloOp τ sig (Elt F))

/-- A word, spread over the table. -/
def lit (c : Wrd) (v : Tab) (k : BitVec 32) : Ops :=
  [TRef.nullary c (constantI S_ 32 k), TRef.unary c v (broadcastInDim S128x100000 ![] bcast_S_S128x100000)]

/-- One round's mixing: `q` rotated left by `a` (right by `b`), then combined with `p` into `y`. -/
def turn (p q : Tab) (c : Wrd) (v l : Tab) (c' : Wrd) (v' r o y : Tab) (a b : BitVec 32) : Ops :=
  lit c v a ++ [TRef.binary q v l Host.shli] ++ lit c' v' b
    ++ [TRef.binary q v' r Host.shrui, TRef.binary l r o ori, TRef.binary p o y xori]

/-- The sum of two tables. -/
def plus (p y s : Tab) : Ops := [TRef.binary p y s addi]

/-- The softmax of the argument at temperature one fifth, with the least entry taken off. -/
def soft : Ops :=
  [ nullary main_cst (constant S_ .f32 0x3E4CCCCD#32),
    unary main_cst main_v0 (broadcastInDim S128x100000 ![] bcast_S_S128x100000 : FltS F → FltOf F),
    binary main_arg0 main_v0 main_v1 (Host.divf : FltOf F → FltOf F → FltOf F),
    nullary main_cst_0 (constant S_ .f32 0x7F800000#32),
    binary main_v1 main_cst_0 main_v2 ((fun x v => Host.reduce FloatOps.minimumf x v reducesTo_S128x100000_S_d0_1 h_S_) : FltOf F → FltS F → FltS F),
    unary main_v2 main_v3 (broadcastInDim S128x100000 ![] bcast_S_S128x100000 : FltS F → FltOf F),
    binary main_v1 main_v3 main_v4 (subf : FltOf F → FltOf F → FltOf F),
    unary main_v4 main_v5 (Host.exp : FltOf F → FltOf F),
    nullary main_cst_1 (constant S_ .f32 0x00000000#32),
    binary main_v5 main_cst_1 main_v6 ((fun x v => Host.reduceAdd x v reducesTo_S128x100000_S128_d1 h_S_) : FltOf F → FltS F → (⟨S128, .f32⟩ : BufTy).Contents (Elt F)),
    unary main_v6 main_v7 (broadcastInDim S128x1 ![0] bcast_S128_S128x1_0 : (⟨S128, .f32⟩ : BufTy).Contents (Elt F) → (⟨S128x1, .f32⟩ : BufTy).Contents (Elt F)),
    unary main_v7 main_v8 (broadcastInDim S128x100000 ![0, 1] bcast_S128x1_S128x100000_0_1 : (⟨S128x1, .f32⟩ : BufTy).Contents (Elt F) → FltOf F),
    binary main_v5 main_v8 main_v9 (Host.divf : FltOf F → FltOf F → FltOf F) ]

/-- The counters, one per table entry. -/
def flat : Ops :=
  [ nullary main_v10 (iotaInDim S12800000 32 0),
    reshape main_v10 main_v11 (rfl : (.i32 : EltTy) = .i32) shapeCasts_S12800000_S128x100000 ]

/-- The two halves of the counter with their keys added, and their sum. -/
def start : Ops :=
  lit (.of main_c) (.of main_v12) 0#32
    ++ lit (.of main_c_2) (.of main_v13) 0#32
    ++ plus (.of main_v12) (.of main_v13) (.of main_v14)
    ++ lit (.of main_c_3) (.of main_v15) 42#32
    ++ plus (.of main_v11) (.of main_v15) (.of main_v16)
    ++ plus (.of main_v14) (.of main_v16) (.of main_v17)

/-- Group 1 of four rounds and its key. -/
def group1 : Ops :=
  turn (.of main_v17) (.of main_v16) (.of main_c_4) (.of main_v18) (.of main_v19) (.of main_c_5) (.of main_v20) (.of main_v21) (.of main_v22) (.of main_v23) 13#32 19#32
    ++ plus (.of main_v17) (.of main_v23) (.of main_v24)
    ++ turn (.of main_v24) (.of main_v23) (.of main_c_6) (.of main_v25) (.of main_v26) (.of main_c_7) (.of main_v27) (.of main_v28) (.of main_v29) (.of main_v30) 15#32 17#32
    ++ plus (.of main_v24) (.of main_v30) (.of main_v31)
    ++ turn (.of main_v31) (.of main_v30) (.of main_c_8) (.of main_v32) (.of main_v33) (.of main_c_9) (.of main_v34) (.of main_v35) (.of main_v36) (.of main_v37) 26#32 6#32
    ++ plus (.of main_v31) (.of main_v37) (.of main_v38)
    ++ turn (.of main_v38) (.of main_v37) (.of main_c_10) (.of main_v39) (.of main_v40) (.of main_c_11) (.of main_v41) (.of main_v42) (.of main_v43) (.of main_v44) 6#32 26#32
    ++ lit (.of main_c_12) (.of main_v45) 42#32
    ++ plus (.of main_v38) (.of main_v45) (.of main_v46)
    ++ lit (.of main_c_13) (.of main_v47) 466689008#32
    ++ plus (.of main_v44) (.of main_v47) (.of main_v48)
    ++ lit (.of main_c_14) (.of main_v49) 1#32
    ++ plus (.of main_v48) (.of main_v49) (.of main_v50)
    ++ plus (.of main_v46) (.of main_v50) (.of main_v51)

/-- Group 2 of four rounds and its key. -/
def group2 : Ops :=
  turn (.of main_v51) (.of main_v50) (.of main_c_15) (.of main_v52) (.of main_v53) (.of main_c_16) (.of main_v54) (.of main_v55) (.of main_v56) (.of main_v57) 17#32 15#32
    ++ plus (.of main_v51) (.of main_v57) (.of main_v58)
    ++ turn (.of main_v58) (.of main_v57) (.of main_c_17) (.of main_v59) (.of main_v60) (.of main_c_18) (.of main_v61) (.of main_v62) (.of main_v63) (.of main_v64) 29#32 3#32
    ++ plus (.of main_v58) (.of main_v64) (.of main_v65)
    ++ turn (.of main_v65) (.of main_v64) (.of main_c_19) (.of main_v66) (.of main_v67) (.of main_c_20) (.of main_v68) (.of main_v69) (.of main_v70) (.of main_v71) 16#32 16#32
    ++ plus (.of main_v65) (.of main_v71) (.of main_v72)
    ++ turn (.of main_v72) (.of main_v71) (.of main_c_21) (.of main_v73) (.of main_v74) (.of main_c_22) (.of main_v75) (.of main_v76) (.of main_v77) (.of main_v78) 24#32 8#32
    ++ lit (.of main_c_23) (.of main_v79) 466689008#32
    ++ plus (.of main_v72) (.of main_v79) (.of main_v80)
    ++ lit (.of main_c_24) (.of main_v81) 0#32
    ++ plus (.of main_v78) (.of main_v81) (.of main_v82)
    ++ lit (.of main_c_25) (.of main_v83) 2#32
    ++ plus (.of main_v82) (.of main_v83) (.of main_v84)
    ++ plus (.of main_v80) (.of main_v84) (.of main_v85)

/-- Group 3 of four rounds and its key. -/
def group3 : Ops :=
  turn (.of main_v85) (.of main_v84) (.of main_c_26) (.of main_v86) (.of main_v87) (.of main_c_27) (.of main_v88) (.of main_v89) (.of main_v90) (.of main_v91) 13#32 19#32
    ++ plus (.of main_v85) (.of main_v91) (.of main_v92)
    ++ turn (.of main_v92) (.of main_v91) (.of main_c_28) (.of main_v93) (.of main_v94) (.of main_c_29) (.of main_v95) (.of main_v96) (.of main_v97) (.of main_v98) 15#32 17#32
    ++ plus (.of main_v92) (.of main_v98) (.of main_v99)
    ++ turn (.of main_v99) (.of main_v98) (.of main_c_30) (.of main_v100) (.of main_v101) (.of main_c_31) (.of main_v102) (.of main_v103) (.of main_v104) (.of main_v105) 26#32 6#32
    ++ plus (.of main_v99) (.of main_v105) (.of main_v106)
    ++ turn (.of main_v106) (.of main_v105) (.of main_c_32) (.of main_v107) (.of main_v108) (.of main_c_33) (.of main_v109) (.of main_v110) (.of main_v111) (.of main_v112) 6#32 26#32
    ++ lit (.of main_c_34) (.of main_v113) 0#32
    ++ plus (.of main_v106) (.of main_v113) (.of main_v114)
    ++ lit (.of main_c_35) (.of main_v115) 42#32
    ++ plus (.of main_v112) (.of main_v115) (.of main_v116)
    ++ lit (.of main_c_36) (.of main_v117) 3#32
    ++ plus (.of main_v116) (.of main_v117) (.of main_v118)
    ++ plus (.of main_v114) (.of main_v118) (.of main_v119)

/-- Group 4 of four rounds and its key. -/
def group4 : Ops :=
  turn (.of main_v119) (.of main_v118) (.of main_c_37) (.of main_v120) (.of main_v121) (.of main_c_38) (.of main_v122) (.of main_v123) (.of main_v124) (.of main_v125) 17#32 15#32
    ++ plus (.of main_v119) (.of main_v125) (.of main_v126)
    ++ turn (.of main_v126) (.of main_v125) (.of main_c_39) (.of main_v127) (.of main_v128) (.of main_c_40) (.of main_v129) (.of main_v130) (.of main_v131) (.of main_v132) 29#32 3#32
    ++ plus (.of main_v126) (.of main_v132) (.of main_v133)
    ++ turn (.of main_v133) (.of main_v132) (.of main_c_41) (.of main_v134) (.of main_v135) (.of main_c_42) (.of main_v136) (.of main_v137) (.of main_v138) (.of main_v139) 16#32 16#32
    ++ plus (.of main_v133) (.of main_v139) (.of main_v140)
    ++ turn (.of main_v140) (.of main_v139) (.of main_c_43) (.of main_v141) (.of main_v142) (.of main_c_44) (.of main_v143) (.of main_v144) (.of main_v145) (.of main_v146) 24#32 8#32
    ++ lit (.of main_c_45) (.of main_v147) 42#32
    ++ plus (.of main_v140) (.of main_v147) (.of main_v148)
    ++ lit (.of main_c_46) (.of main_v149) 466689008#32
    ++ plus (.of main_v146) (.of main_v149) (.of main_v150)
    ++ lit (.of main_c_47) (.of main_v151) 4#32
    ++ plus (.of main_v150) (.of main_v151) (.of main_v152)
    ++ plus (.of main_v148) (.of main_v152) (.of main_v153)

/-- Group 5 of four rounds and its key. -/
def group5 : Ops :=
  turn (.of main_v153) (.of main_v152) (.of main_c_48) (.of main_v154) (.of main_v155) (.of main_c_49) (.of main_v156) (.of main_v157) (.of main_v158) (.of main_v159) 13#32 19#32
    ++ plus (.of main_v153) (.of main_v159) (.of main_v160)
    ++ turn (.of main_v160) (.of main_v159) (.of main_c_50) (.of main_v161) (.of main_v162) (.of main_c_51) (.of main_v163) (.of main_v164) (.of main_v165) (.of main_v166) 15#32 17#32
    ++ plus (.of main_v160) (.of main_v166) (.of main_v167)
    ++ turn (.of main_v167) (.of main_v166) (.of main_c_52) (.of main_v168) (.of main_v169) (.of main_c_53) (.of main_v170) (.of main_v171) (.of main_v172) (.of main_v173) 26#32 6#32
    ++ plus (.of main_v167) (.of main_v173) (.of main_v174)
    ++ turn (.of main_v174) (.of main_v173) (.of main_c_54) (.of main_v175) (.of main_v176) (.of main_c_55) (.of main_v177) (.of main_v178) (.of main_v179) (.of main_v180) 6#32 26#32
    ++ lit (.of main_c_56) (.of main_v181) 466689008#32
    ++ plus (.of main_v174) (.of main_v181) (.of main_v182)
    ++ lit (.of main_c_57) (.of main_v183) 0#32
    ++ plus (.of main_v180) (.of main_v183) (.of main_v184)
    ++ lit (.of main_c_58) (.of main_v185) 5#32
    ++ plus (.of main_v184) (.of main_v185) (.of main_v186)

/-- The noise of a random word and its sum with the log-probabilities. -/
def noise : Ops :=
  [ binary main_v182 main_v186 main_v187 (xori : IntOf F → IntOf F → IntOf F),
    nullary main_c_59 (constantI S_ 32 9#32),
    unary main_c_59 main_v188 (broadcastInDim S128x100000 ![] bcast_S_S128x100000 : IntS F → IntOf F),
    binary main_v187 main_v188 main_v189 (Host.shrui : IntOf F → IntOf F → IntOf F),
    nullary main_c_60 (constantI S_ 32 1065353216#32),
    unary main_c_60 main_v190 (broadcastInDim S128x100000 ![] bcast_S_S128x100000 : IntS F → IntOf F),
    binary main_v189 main_v190 main_v191 (ori : IntOf F → IntOf F → IntOf F),
    unary main_v191 main_v192 (bitcastToFloat .f32 : IntOf F → FltOf F),
    nullary main_cst_61 (constant S_ .f32 0x3F800000#32),
    unary main_cst_61 main_v193 (broadcastInDim S128x100000 ![] bcast_S_S128x100000 : FltS F → FltOf F),
    binary main_v192 main_v193 main_v194 (subf : FltOf F → FltOf F → FltOf F),
    nullary main_cst_62 (constant S_ .f32 0x3F800000#32),
    unary main_cst_62 main_v195 (broadcastInDim S128x100000 ![] bcast_S_S128x100000 : FltS F → FltOf F),
    binary main_v194 main_v195 main_v196 (mulf : FltOf F → FltOf F → FltOf F),
    nullary main_cst_63 (constant S_ .f32 0x00800000#32),
    unary main_cst_63 main_v197 (broadcastInDim S128x100000 ![] bcast_S_S128x100000 : FltS F → FltOf F),
    binary main_v196 main_v197 main_v198 (addf : FltOf F → FltOf F → FltOf F),
    nullary main_cst_64 (constant S_ .f32 0x00800000#32),
    unary main_cst_64 main_v199 (broadcastInDim S128x100000 ![] bcast_S_S128x100000 : FltS F → FltOf F),
    binary main_v199 main_v198 main_v200 (maximumf : FltOf F → FltOf F → FltOf F),
    unary main_v200 main_v201 (Host.log : FltOf F → FltOf F),
    unary main_v201 main_v202 (Host.negf : FltOf F → FltOf F),
    unary main_v202 main_v203 (Host.log : FltOf F → FltOf F),
    unary main_v203 main_v204 (Host.negf : FltOf F → FltOf F),
    unary main_v9 main_v205 (Host.log : FltOf F → FltOf F),
    binary main_v204 main_v205 main_v206 (addf : FltOf F → FltOf F → FltOf F) ]

/-- The first largest column of each row. -/
def largest (arg0 : TRef sig ⟨S128x100000, .f32⟩) (φ : fn_argmax.Bufs) : Ops :=
  [ TRef.nullary φ.v0 (iotaInDim S128x100000 32 1),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S128x100000_S128_d1 h_S_ j).1),
    TRef.quaternary arg0 φ.v0 φ.cst φ.c φ.v1_1 (fun x y u v j => (Host.argReduce reducer_argmax_f32_i32 x y u v reducesTo_S128x100000_S128_d1 h_S_ j).2) ]

/-- The entry of each row at a column. -/
def taken (arg0 : TRef sig ⟨S128x100000, .f32⟩) (arg1 : TRef sig ⟨S128x1, .i32⟩) (φ : fn_take_along_axis.Bufs) : Ops :=
  [ TRef.nullary φ.c (constantI S_ 32 0#32),
    TRef.unary φ.c φ.v0 (broadcastInDim S128x1 ![] bcast_S_S128x1),
    TRef.binary arg1 φ.v0 φ.v1 (cmpi .slt),
    TRef.nullary φ.c_0 (constantI S_ 32 100000#32),
    TRef.unary φ.c_0 φ.v2 (broadcastInDim S128x1 ![] bcast_S_S128x1),
    TRef.binary arg1 φ.v2 φ.v3 addi,
    TRef.ternary φ.v1 φ.v3 arg1 φ.v4 select,
    TRef.reshape φ.v4 φ.v5 (rfl : (.i32 : EltTy) = .i32) shapeCasts_S128x1_S128x1x1,
    TRef.nullary φ.c_1 (constantI S1 32 99999#32),
    TRef.nullary φ.c_2 (constantI S_ 32 0#32),
    TRef.unary φ.c_2 φ.v6 (broadcastInDim S128x1x1 ![] bcast_S_S128x1x1),
    TRef.binary φ.v5 φ.v6 φ.v7 (cmpi .sge),
    TRef.unary φ.c_1 φ.v8 (broadcastInDim S1x1x1 ![2] bcast_S1_S1x1x1_2),
    TRef.unary φ.v8 φ.v9 (broadcastInDim S128x1x1 ![0, 1, 2] bcast_S1x1x1_S128x1x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S128x1x1_S128x1_d2 h_S_),
    TRef.binary arg0 φ.v5 φ.v13 (fun x i => Host.gather gather_S128x100000_S128x1x1_S128x1_n_1_0_0_1_2_11 x i),
    TRef.nullary φ.cst (constant S_ .f32 0x7FC00000#32),
    TRef.unary φ.cst φ.v14 (broadcastInDim S128x1 ![] bcast_S_S128x1),
    TRef.ternary φ.v12 φ.v13 φ.v14 φ.v15 select ]

/-- The column as a one-column table. -/
def column : Ops :=
  [ unary main_v207 main_v208 (broadcastInDim S128x1 ![0] bcast_S128_S128x1_0 : (⟨S128, .i32⟩ : BufTy).Contents (Elt F) → (⟨S128x1, .i32⟩ : BufTy).Contents (Elt F)) ]

/-- All of the reference's operations, in order. -/
def ops : Ops :=
  soft ++ (flat ++ (start ++ (group1 ++ (group2 ++ (group3 ++ (group4 ++ (group5 ++ (noise
    ++ (largest (.of main_v206) main_call0 ++ (column ++ taken (.of main_v9) (.of main_v208) main_call1))))))))))

theorem main_eq (c : Dev nD) : main (F := F) c = seq ops := by sl_kernel_rfl

theorem scopedRefs_eq : (Finset.univ.filter fun b : Ref sig .tc => b.isScoped) = ∅ := by decide
theorem scopedSems_eq : (Finset.univ.filter fun sm : SemLoc sig => sm.isScoped .tc) = ∅ := by decide

/-- An operation on the device's own buffers that determines what it writes. -/
def Plain (op : HloOp τ sig (Elt F)) : Prop := op.bufs ⊆ tcRefs τ sig ∧ op.fresh = ∅

section
variable {x y z u v : Ref sig .tc}
theorem plain_nullary (k hy) : Plain (F := F) (nullary y k hy) := ⟨nullary_bufs_sub .., rfl⟩
theorem plain_unary (f hx hy) : Plain (F := F) (unary x y f hx hy) := ⟨unary_bufs_sub .., rfl⟩
theorem plain_binary (f hx hy hz) : Plain (F := F) (binary x y z f hx hy hz) := ⟨binary_bufs_sub .., rfl⟩
theorem plain_ternary (f hx hy hz hu) : Plain (F := F) (ternary x y z u f hx hy hz hu) := ⟨ternary_bufs_sub .., rfl⟩
theorem plain_quaternary (f hx hy hz hu hv) : Plain (F := F) (quaternary x y z u v f hx hy hz hu hv) := ⟨quaternary_bufs_sub .., rfl⟩
theorem plain_reshape (he hn hx hy) : Plain (F := F) (reshape x y he hn hx hy) := ⟨reshape_bufs_sub .., rfl⟩
end

theorem plain : ∀ op ∈ (ops : Ops), Plain op := by
  simp only [ops, soft, flat, start, group1, group2, group3, group4, group5, noise, largest, column, taken, lit, turn, plus,
    List.forall_mem_append, List.forall_mem_cons, plain_nullary, plain_unary, plain_binary, plain_ternary, plain_quaternary,
    plain_reshape, true_and, and_true, List.not_mem_nil, false_imp_iff, implies_true]

/-- Every run of the reference ends, with each buffer at what the operations leave there. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq
    (fun _ => List.forall_iff_forall_mem.mpr fun op h => (plain op h).1) m ρ fun _ op h => (plain op h).2

theorem kept (V : Valuation τ sig (Elt F)) : after ops V (Proc.devRef .tc main_arg0) = V (Proc.devRef .tc main_arg0) := by
  sl_kernel_rfl

/-- The argument ends as launched and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c main_arg0).trans (kept _), sem_eq_zero_of_no_sems (by decide) r.2⟩) (run m ρ)

end Cert.ReferenceIdeal.Ref

end
-- ==== Proof.Frames.lean ====
/-
  The three frames and the named constant. The kernel's program at the bit patterns is the idealized program read with
  every named constant at its own pattern, so one frame proof serves both.
-/
module

public import proofs.«01_k».proof.Proof.Run
public import proofs.«01_k».proof.Proof.RefOps
public import proofs.«01_k».proof.Proof.Gen.Kernel
public import Idealize.ShloMosaic.Lib.Tactic

@[expose] public section

noncomputable section

namespace Cert.Frames

open Idealize.ShloMosaic Idealize.ShloMosaic.TcCoe Idealize.ShloMosaic.Tactic
open Idealize.SL Idealize.SL.Sem

/-- At the bit patterns a named constant is its own pattern. -/
local instance plain : Named Bits where
  named _ _ {φ} bits := Scalar.ofBits φ bits

/-- The kernel's frame, said of the idealized program at the bit patterns. -/
def Twin : Prop := ∀ (m : (ℓ : Loc Cert.KernelIdeal.nD Cert.KernelIdeal.τ Cert.KernelIdeal.sig) → Buf (Elt Bits) ℓ)
    (ρ : Dev Cert.KernelIdeal.nD → PrngReg), True →
  θ_run (Cert.KernelIdeal.defs (F := Bits)) (onTc (τ := Cert.KernelIdeal.τ) (Cert.KernelIdeal.main (F := Bits))) ⟨m, fun _ => 0, ρ⟩
    (fun r => (∀ c : Dev Cert.KernelIdeal.nD,
      r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0)

theorem twin : Twin = quiescent_Kernel := by sl_kernel_rfl

theorem kernel : quiescent_Kernel := twin.mp fun m ρ _ => Cert.KernelIdeal.Sweep.frame m ρ

theorem kernelIdeal : quiescent_KernelIdeal := fun m ρ _ => Cert.KernelIdeal.Sweep.frame m ρ

theorem referenceIdeal : quiescent_ReferenceIdeal := fun m ρ _ => Cert.ReferenceIdeal.Ref.frame m ρ

theorem preserves : preserves_Kernel_KernelIdeal :=
  ⟨IdealRules.named_const.statement Cert.KernelIdeal.κ "mask" .f32 0xFF61B1E6#32 ⊥ rfl,
    IdealRules.named_const.statement Cert.KernelIdeal.κ "inv_alpha" .f32 0x40A00000#32 ((67108864 / 13421773 : ℝ) : EReal) rfl⟩

end Cert.Frames

end
-- ==== Proof.Scan.lean ====
/-
  Scanning for the first greatest entry, in plain numbers: what a running maximum, a descent keeping the last match, and
  a fold of blocks that moves only on a strict increase end with.
-/
module

public import Idealize.ShloMosaic.PureOps.Ideal

@[expose] public section

noncomputable section

namespace Cert.Scan

/-- `c` is the first of the positions in `S` at which `Z` is greatest. -/
def Lead (S : ℕ → Prop) (Z : ℕ → EReal) (c : ℕ) : Prop := S c ∧ ∀ d, S d → Z d ≤ Z c ∧ (Z d = Z c → c ≤ d)

theorem Lead.unique {S : ℕ → Prop} {Z : ℕ → EReal} {a b : ℕ} (ha : Lead S Z a) (hb : Lead S Z b) : a = b := by
  have h : Z a = Z b := le_antisymm (hb.2 a ha.1).1 (ha.2 b hb.1).1
  exact le_antisymm ((ha.2 b hb.1).2 h.symm) ((hb.2 a ha.1).2 h)

theorem Lead.congr {S T : ℕ → Prop} {Z Y : ℕ → EReal} {c : ℕ} (h : Lead S Z c) (hS : ∀ d, T d ↔ S d)
    (hZ : ∀ d, S d → Y d = Z d) : Lead T Y c := by
  refine ⟨(hS c).2 h.1, fun d hd => ?_⟩
  rw [hZ d ((hS d).1 hd), hZ c h.1]
  exact h.2 d ((hS d).1 hd)

/-- The running maximum of `z 0 … z n`. -/
def up (z : ℕ → EReal) : ℕ → EReal
  | 0 => z 0
  | n + 1 => max (up z n) (z (n + 1))

theorem le_up (z : ℕ → EReal) (n : ℕ) : ∀ k ≤ n, z k ≤ up z n := by
  induction n with
  | zero => intro k hk; obtain rfl : k = 0 := by omega
            exact le_refl _
  | succ n ih =>
    intro k hk
    rcases Nat.lt_or_ge k (n + 1) with h | h
    · exact (ih k (by omega)).trans (le_max_left _ _)
    · obtain rfl : k = n + 1 := by omega
      exact le_max_right _ _

theorem up_mem (z : ℕ → EReal) (n : ℕ) : ∃ k ≤ n, z k = up z n := by
  induction n with
  | zero => exact ⟨0, le_refl _, rfl⟩
  | succ n ih =>
    obtain ⟨k, hk, e⟩ := ih
    rcases le_total (up z n) (z (n + 1)) with h | h
    · exact ⟨n + 1, le_refl _, (max_eq_right h).symm⟩
    · exact ⟨k, by omega, by rw [e]; exact (max_eq_left h).symm⟩

/-- Coming down from position 99, the last value seen at a match with `M`. -/
def down {α : Type} (z : ℕ → EReal) (M : EReal) (v : ℕ → α) (d : α) : ℕ → α
  | 0 => d
  | n + 1 => if z (99 - n) = M then v (99 - n) else down z M v d n

theorem down_spec {α : Type} (z : ℕ → EReal) (M : EReal) (v : ℕ → α) (d : α) (n : ℕ) (hn : n ≤ 100) :
    (∀ k, 100 - n ≤ k → k < 100 → z k ≠ M) ∧ down z M v d n = d
      ∨ ∃ k, 100 - n ≤ k ∧ k < 100 ∧ z k = M ∧ (∀ k', 100 - n ≤ k' → k' < k → z k' ≠ M) ∧ down z M v d n = v k := by
  induction n with
  | zero => exact .inl ⟨fun k h h' => by omega, rfl⟩
  | succ n ih =>
    by_cases h : z (99 - n) = M
    · exact .inr ⟨99 - n, by omega, by omega, h, fun k' h1 h2 => by omega, if_pos h⟩
    · have e : down z M v d (n + 1) = down z M v d n := if_neg h
      rw [e]
      rcases ih (by omega) with ⟨h1, h2⟩ | ⟨k, h1, h2, h3, h4, h5⟩
      · refine .inl ⟨fun k a b => ?_, h2⟩
        rcases Nat.lt_or_ge k (100 - n) with c | c
        · obtain rfl : k = 99 - n := by omega
          exact h
        · exact h1 k c b
      · refine .inr ⟨k, by omega, h2, h3, fun k' a b => ?_, h5⟩
        rcases Nat.lt_or_ge k' (100 - n) with c | c
        · obtain rfl : k' = 99 - n := by omega
          exact h
        · exact h4 k' c b

/-- A hundred slices: the descent ends at the first slice that holds the maximum. -/
theorem block (z : ℕ → EReal) : ∃ k, k < 100 ∧ z k = up z 99 ∧ (∀ k' < 100, z k' ≤ up z 99) ∧ (∀ k' < k, z k' ≠ up z 99)
      ∧ ∀ {α : Type} (v : ℕ → α) (d : α), down z (up z 99) v d 100 = v k := by
  classical
  obtain ⟨m, hm, em⟩ := up_mem z 99
  have hex : ∃ k, z k = up z 99 := ⟨m, em⟩
  refine ⟨Nat.find hex, ?_, Nat.find_spec hex, fun k hk => le_up z 99 k (by omega), fun k hk => Nat.find_min hex hk, ?_⟩
  · exact lt_of_le_of_lt (Nat.find_min' hex em) (by omega)
  · intro α v d
    rcases down_spec z (up z 99) v d 100 (le_refl _) with ⟨h, _⟩ | ⟨k, _, h2, h3, h4, h5⟩
    · exact absurd em (h m (by omega) (by omega))
    · rw [h5]
      congr 1
      refine le_antisymm ?_ (Nat.find_min' hex h3)
      by_contra hc
      exact h4 _ (by omega) (by omega) (Nat.find_spec hex)

/-- The positions of lane `l` in the first `n` blocks of 12800. -/
def Lane (n l : ℕ) : ℕ → Prop := fun d => d < 12800 * n ∧ d % 128 = l

/-- What a lane holds after `n` blocks: nothing yet, or the first greatest position so far with its values. -/
def Held (Z E : ℕ → EReal) (n l : ℕ) (z : EReal) (c : BitVec 32) (e : EReal) : Prop :=
  (n = 0 ∧ z = ⊥) ∨ ∃ p, Lead (Lane n l) Z p ∧ z = Z p ∧ c = BitVec.ofNat 32 p ∧ e = E p

/-- One more block. -/
theorem Held.step {Z E : ℕ → EReal} {n l : ℕ} (hl : l < 128) (h0 : ⊥ < Z l) {z : EReal} {c : BitVec 32} {e : EReal}
    (h : Held Z E n l z c e) {zk ek : ℕ → EReal} (hz : ∀ k < 100, zk k = Z (12800 * n + 128 * k + l))
    (he : ∀ k < 100, ek k = E (12800 * n + 128 * k + l)) {kb : BitVec 32} {eb : EReal} (d0 : BitVec 32) (e0 : EReal)
    (hk : kb = down zk (up zk 99) (fun k => BitVec.ofNat 32 k) d0 100) (heb : eb = down zk (up zk 99) ek e0 100) :
    Held Z E (n + 1) l (if z < up zk 99 then up zk 99 else z)
      (if z < up zk 99 then BitVec.ofNat 32 n * 12800#32 + kb * 128#32 + BitVec.ofNat 32 l else c)
      (if z < up zk 99 then eb else e) := by
  obtain ⟨k, k1, k2, k3, k4, k5⟩ := block zk
  rw [k5] at hk heb
  have mem : ∀ d, Lane (n + 1) l d → ¬ d < 12800 * n → ∃ q < 100, d = 12800 * n + 128 * q + l := fun d hd hn => by
    obtain ⟨a, b⟩ := hd
    exact ⟨(d - 12800 * n) / 128, by omega, by omega⟩
  by_cases hlt : z < up zk 99
  · rw [if_pos hlt, if_pos hlt, if_pos hlt]
    refine .inr ⟨12800 * n + 128 * k + l, ⟨⟨by omega, by omega⟩, fun d hd => ?_⟩, by rw [← k2, hz k k1], ?_, by rw [heb, he k k1]⟩
    · rw [← hz k k1, k2]
      by_cases hn : d < 12800 * n
      · rcases h with ⟨h1, _⟩ | ⟨p, hp, e1, _, _⟩
        · omega
        · have h2 : Z d < up zk 99 := lt_of_le_of_lt ((hp.2 d ⟨hn, hd.2⟩).1.trans (le_of_eq e1.symm)) hlt
          exact ⟨le_of_lt h2, fun h3 => absurd h3 (ne_of_lt h2)⟩
      · obtain ⟨q, hq, rfl⟩ := mem d hd hn
        rw [← hz q hq]
        refine ⟨k3 q hq, fun h3 => ?_⟩
        have : ¬ q < k := fun h4 => k4 q h4 h3
        omega
    · rw [hk]
      apply BitVec.eq_of_toNat_eq
      simp only [BitVec.toNat_add, BitVec.toNat_mul, BitVec.toNat_ofNat]
      omega
  · rw [if_neg hlt, if_neg hlt, if_neg hlt]
    rcases h with ⟨h1, h2⟩ | ⟨p, hp, e1, e2, e3⟩
    · subst h1; subst h2
      exact absurd (lt_of_lt_of_le (by rw [hz 0 (by omega)]; simpa using h0) (k3 0 (by omega))) hlt
    · refine .inr ⟨p, ⟨⟨by have := hp.1.1; omega, hp.1.2⟩, fun d hd => ?_⟩, e1, e2, e3⟩
      by_cases hn : d < 12800 * n
      · exact hp.2 d ⟨hn, hd.2⟩
      · obtain ⟨q, hq, rfl⟩ := mem d hd hn
        have := hp.1.1
        rw [← hz q hq, ← e1]
        exact ⟨(k3 q hq).trans (not_lt.1 hlt), fun _ => by omega⟩

/-- The lanes' leaders, and the first of them among those with the greatest value. -/
theorem lanes {Z : ℕ → EReal} {n : ℕ} {p : Fin 128 → ℕ} (hp : ∀ l, Lead (Lane n l.val) Z (p l)) {M : EReal}
    (hM : ∀ l, Z (p l) ≤ M) {c : ℕ} {l : Fin 128} (hc : Z (p l) = M ∧ c = p l) (hmin : ∀ l, Z (p l) = M → c ≤ p l) :
    Lead (fun d => d < 12800 * n) Z c := by
  obtain ⟨h1, rfl⟩ := hc
  refine ⟨(hp l).1.1, fun d hd => ?_⟩
  have hl : d % 128 < 128 := Nat.mod_lt _ (by omega)
  have h2 := (hp ⟨d % 128, hl⟩).2 d ⟨hd, rfl⟩
  rw [h1]
  refine ⟨h2.1.trans (hM _), fun h3 => ?_⟩
  have h4 : Z (p ⟨d % 128, hl⟩) = M := le_antisymm (hM _) (h3 ▸ h2.1)
  exact (hmin _ h4).trans (h2.2 (h3.trans h4.symm))

theorem sum_split (A B : ℕ) (g : ℕ → EReal) :
    ∑ d ∈ Finset.range (B * A), g d = ∑ a ∈ Finset.range A, ∑ b ∈ Finset.range B, g (B * a + b) := by
  induction A with
  | zero => simp
  | succ A ih => rw [Nat.mul_succ, Finset.sum_range_add, ih, Finset.sum_range_succ]

/-- Adding the lanes' blocks and slices up covers every position once. -/
theorem sum_lanes (E : ℕ → EReal) (n : ℕ) :
    ∑ l ∈ Finset.range 128, ∑ t ∈ Finset.range n, ∑ k ∈ Finset.range 100, E (12800 * t + 128 * k + l)
      = ∑ d ∈ Finset.range (12800 * n), E d := by
  rw [Finset.sum_comm, sum_split n 12800]
  refine Finset.sum_congr rfl fun t _ => ?_
  rw [Finset.sum_comm, show 12800 = 128 * 100 from rfl, sum_split 100 128]
  refine Finset.sum_congr rfl fun k _ => Finset.sum_congr rfl fun l _ => ?_
  rw [Nat.add_assoc]

end Cert.Scan

end
-- ==== Proof.Lane.lean ====
/-
  The accumulators over the extended reals, lane by lane: after each block a lane holds the first greatest score among
  its columns so far, that column, the exponential there, and the sum of all its exponentials.
-/
module

public import proofs.«01_k».proof.Proof.Body
public import proofs.«01_k».proof.Proof.Scan
public import Idealize.ShloMosaic.Lib.Pipeline.Value

@[expose] public section

noncomputable section

namespace Cert.KernelIdeal.Sweep

open Cert.KernelIdeal Cert.KernelIdeal.Gen Idealize.ShloMosaic Cert.Scan

theorem pick {p : Prop} [Decidable p] {α : Type} (a b : α) :
    (if BitVec.ofBool (decide p) = 1#1 then a else b) = if p then a else b := by
  by_cases h : p <;> simp [h]

/-- Slice `k`, read at a lane's place. -/
theorem sl_apply {α : Type} (z : S128x12800.Idx → α) (k : ℕ) (hk : k < 100) (j : S128x128.Idx) {g : ℕ → α}
    (h : ∀ J : S128x12800.Idx, J 0 = j 0 → z J = g (J 1).val) : sl z k j = g (128 * k + (j 1).val) := by
  unfold sl extractStridedSlice
  rw [h _ (Fin.ext (by show 0 + (j 0).val = _; omega))]
  congr 1
  show 128 * (k % 100) + (j 1).val = _
  rw [Nat.mod_eq_of_lt hk]

theorem zmax_apply (z : FVec Ideal S128x12800 .f32) (j : S128x128.Idx) (n : ℕ) :
    zmax z n j = up (fun k => sl z k j) n := by
  induction n with
  | zero => rfl
  | succ n ih => exact congrArg (fun x => max x (sl z (n + 1) j)) ih

theorem esum_apply (e : FVec Ideal S128x12800 .f32) (j : S128x128.Idx) (n : ℕ) :
    esum e n j = ∑ k ∈ Finset.range (n + 1), (sl e k j : EReal) := by
  induction n with
  | zero => exact (Finset.sum_range_one (fun k => (sl e k j : EReal))).symm
  | succ n ih => rw [Finset.sum_range_succ, ← ih]; rfl

theorem kbest_apply (z : FVec Ideal S128x12800 .f32) (M : FVec Ideal S128x128 .f32) (j : S128x128.Idx) (n : ℕ) :
    kbest z M n j = down (fun k => sl z k j) (M j) (fun k => BitVec.ofNat 32 k) 0#32 n := by
  induction n with
  | zero => rfl
  | succ n ih =>
    refine (pick (p := (sl z (99 - n) j : EReal) = M j) (BitVec.ofNat 32 (99 - n)) (kbest z M n j)).trans ?_
    rw [ih]; rfl

theorem ebest_apply (z e : FVec Ideal S128x12800 .f32) (M : FVec Ideal S128x128 .f32) (j : S128x128.Idx) (n : ℕ) :
    ebest z e M n j = down (fun k => sl z k j) (M j) (fun k => (sl e k j : EReal)) (sl e 0 j) n := by
  induction n with
  | zero => rfl
  | succ n ih =>
    refine (pick (p := (sl z (99 - n) j : EReal) = M j) (sl e (99 - n) j) (ebest z e M n j)).trans ?_
    rw [ih]; rfl

theorem colloc_apply (i : grid0.Coords) (kb : IVec S128x128 32) (j : S128x128.Idx) :
    colloc i kb j = BitVec.ofNat 32 (i 1).val * 12800#32 + kb j * 128#32 + BitVec.ofNat 32 (j 1).val := by
  show _ + iota .tc S128x128 32 [1] iota_S128x128_d1_w32 j = _
  rw [show iota .tc S128x128 32 [1] iota_S128x128_d1_w32 j = BitVec.ofNat 32 (j 1).val by simp [iota]]
  rfl

/-- One block folded into a lane. -/
theorem fold_held (i : grid0.Coords) (z e : FVec Ideal S128x12800 .f32) (a : Acc Ideal) (j : S128x128.Idx) {Z E : ℕ → EReal}
    (h0 : ⊥ < Z (j 1).val) (hz : ∀ J : S128x12800.Idx, J 0 = j 0 → z J = Z (12800 * (i 1).val + (J 1).val))
    (he : ∀ J : S128x12800.Idx, J 0 = j 0 → e J = E (12800 * (i 1).val + (J 1).val))
    (h : Held Z E (i 1).val (j 1).val (a.z j) (a.c j) (a.e j)) :
    Held Z E ((i 1).val + 1) (j 1).val ((fold i z e a).z j) ((fold i z e a).c j) ((fold i z e a).e j) := by
  have hl : (j 1).val < 128 := (j 1).isLt
  have hz' : ∀ k < 100, sl z k j = Z (12800 * (i 1).val + 128 * k + (j 1).val) := fun k hk => by
    rw [sl_apply z k hk j (g := fun d => Z (12800 * (i 1).val + d)) hz, Nat.add_assoc]
  have he' : ∀ k < 100, sl e k j = E (12800 * (i 1).val + 128 * k + (j 1).val) := fun k hk => by
    rw [sl_apply e k hk j (g := fun d => E (12800 * (i 1).val + d)) he, Nat.add_assoc]
  have H := Held.step hl h0 h hz' he' 0#32 (sl e 0 j) rfl rfl
  have e1 := zmax_apply z j 99
  have ez : (fold i z e a).z j = if a.z j < up (fun k => sl z k j) 99 then up (fun k => sl z k j) 99 else a.z j := by
    simp only [fold, k0_pay344, k0_pay343, shapeCast_self]
    rw [← e1]
    exact pick _ _
  have ec : (fold i z e a).c j = if a.z j < up (fun k => sl z k j) 99 then
      colloc i (kbest z (zmax z 99) 100) j else a.c j := by
    simp only [fold, k0_pay1, k0_pay343, shapeCast_self]
    rw [← e1]
    exact pick _ _
  have ee : (fold i z e a).e j = if a.z j < up (fun k => sl z k j) 99 then ebest z e (zmax z 99) 100 j else a.e j := by
    simp only [fold, k0_pay2, k0_pay343, shapeCast_self]
    rw [← e1]
    exact pick _ _
  rw [ez, ec, ee, colloc_apply, kbest_apply, ebest_apply, e1]
  exact H

/-- The lane's sum after one block more. -/
theorem fold_sum (i : grid0.Coords) (z e : FVec Ideal S128x12800 .f32) (a : Acc Ideal) (j : S128x128.Idx) {E : ℕ → EReal}
    (he : ∀ J : S128x12800.Idx, J 0 = j 0 → e J = E (12800 * (i 1).val + (J 1).val)) :
    (fold i z e a).s j = a.s j + ∑ k ∈ Finset.range 100, E (12800 * (i 1).val + 128 * k + (j 1).val) := by
  simp only [fold, k0_pay3, shapeCast_self]
  show a.s j + esum e 99 j = _
  rw [esum_apply]
  refine congrArg (fun x => a.s j + x) (Finset.sum_congr rfl fun k hk => ?_)
  rw [sl_apply e k (Finset.mem_range.1 hk) j (g := fun d => E (12800 * (i 1).val + d)) he, Nat.add_assoc]

end Cert.KernelIdeal.Sweep

end
-- ==== Proof.Finish.lean ====
/-
  The two results from the accumulators: the first greatest score's column over all lanes, and the exponential there over
  the sum of all exponentials.
-/
module

public import proofs.«01_k».proof.Proof.Lane
public import Idealize.ShloMosaic.Lib.Pointwise

@[expose] public section

noncomputable section

namespace Cert.KernelIdeal.Sweep

open Cert.KernelIdeal Cert.KernelIdeal.Gen Idealize.ShloMosaic Cert.Scan

theorem bottom : Ideal.ofBits FTy.f32 4286578688#32 = ⊥ := by
  simp [Ideal.ofBits, Ideal.ieee]

/-- A fold of the maximum from below everything, attained at `l`. -/
theorem fold_max_of {n : ℕ} (f : Fin n → EReal) (l : Fin n) (h : ∀ k, f k ≤ f l) :
    Finset.fold max (Ideal.ofBits FTy.f32 4286578688#32) f Finset.univ = f l := by
  rw [bottom]
  refine le_antisymm ?_ ?_
  · exact Finset.fold_max_le _ |>.2 ⟨bot_le, fun k _ => h k⟩
  · exact Finset.le_fold_max _ |>.2 (.inr ⟨l, Finset.mem_univ _, le_refl _⟩)

theorem minsi_toInt (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.1 h)]

/-- A fold of the signed minimum, attained at `l`. -/
theorem fold_min_of {n : ℕ} (f : Fin n → BitVec 32) (l : Fin n) (h : ∀ k, (f l).toInt ≤ (f k).toInt)
    (h' : (f l).toInt ≤ 2147483647) : Finset.fold IntOp.minsi 2147483647#32 f Finset.univ = f l := by
  have key : ∀ S : Finset (Fin n), (Finset.fold IntOp.minsi 2147483647#32 f S).toInt = S.fold min 2147483647 fun k => (f k).toInt := by
    intro S
    induction S using Finset.induction_on with
    | empty => rfl
    | insert a S ha ih => rw [Finset.fold_insert ha, Finset.fold_insert ha, minsi_toInt, ih]
  apply BitVec.eq_of_toInt_eq
  rw [key]
  refine le_antisymm ?_ ?_
  · exact Finset.fold_min_le _ |>.2 (.inr ⟨l, Finset.mem_univ _, le_refl _⟩)
  · exact Finset.le_fold_min _ |>.2 ⟨h', fun k _ => h k⟩

theorem toInt_col {p : ℕ} (h : p < 102400) : (BitVec.ofNat 32 p).toInt = p := by
  rw [BitVec.toInt_ofNat', Int.bmod]
  omega

/-- The choice of the lane that holds the column and the greatest score. -/
theorem chosen {z M e : EReal} {p q : ℕ} (hp : p < 102400) (hq : q < 102400) (h : p = q → z = M) :
    (Scalar.select (IntOp.andi (IntOp.cmpi CmpIPredicate.eq (BitVec.ofNat 32 p) (BitVec.ofNat 32 q)) (BitVec.ofBool (decide (z = M)))) e 0 : EReal)
      = if p = q then e else 0 := by
  by_cases e' : p = q
  · rw [if_pos e', e', h e']
    simp [Scalar.select, IntOp.andi, IntOp.cmpi]
  · have ne : BitVec.ofNat 32 p ≠ BitVec.ofNat 32 q := fun e'' => e' (by
      have := congrArg BitVec.toInt e''
      rw [toInt_col hp, toInt_col hq] at this
      exact_mod_cast this)
    rw [if_neg e']
    have h0 : ∀ b : BitVec 1, ¬ 0#1 &&& b = 1#1 := by decide
    show (if IntOp.cmpi CmpIPredicate.eq (BitVec.ofNat 32 p) (BitVec.ofNat 32 q) &&& _ = 1#1 then e else 0) = 0
    rw [show IntOp.cmpi CmpIPredicate.eq (BitVec.ofNat 32 p) (BitVec.ofNat 32 q) = 0#1 by simp only [IntOp.cmpi, beq_eq_false_iff_ne.2 ne]; rfl, if_neg (h0 _)]

/-- The results at a row, from what its lanes hold after all blocks. -/
theorem results (a : Acc Ideal) (r : Fin 128) {Z E : ℕ → EReal} (hE : ∀ c, 0 ≤ E c) {n : ℕ} (hn : n ≠ 0) (hn' : n ≤ 8)
    (h : ∀ l : Fin 128, Held Z E n l.val (a.z (ix2 r l)) (a.c (ix2 r l)) (a.e (ix2 r l))) :
    ∃ c, Lead (fun d => d < 12800 * n) Z c ∧ outCol a (ix2 r 0) = BitVec.ofNat 32 c
      ∧ outVal a (ix2 r 0) = Ideal.div (E c) (∑ l : Fin 128, (a.s (ix2 r l) : EReal)) := by
  have h1 : ∀ l : Fin 128, ∃ p, Lead (Lane n l.val) Z p ∧ a.z (ix2 r l) = Z p ∧ a.c (ix2 r l) = BitVec.ofNat 32 p
      ∧ a.e (ix2 r l) = E p := fun l => (h l).resolve_left fun x => hn x.1
  choose p hp hz hc he using h1
  have hlt : ∀ l, p l < 102400 := fun l => by
    have := (hp l).1.1
    omega
  obtain ⟨l0, hl0⟩ := Finite.exists_max fun l : Fin 128 => Z (p l)
  obtain ⟨l, hl⟩ : ∃ l : Fin 128, Z (p l) = Z (p l0) ∧ ∀ k, Z (p k) = Z (p l0) → p l ≤ p k := by
    obtain ⟨l, hl, hmin⟩ := (Finset.univ.filter fun k : Fin 128 => Z (p k) = Z (p l0)).exists_min_image p ⟨l0, by simp⟩
    exact ⟨l, (Finset.mem_filter.1 hl).2, fun k hk => hmin k (by simpa using hk)⟩
  have hM : Finset.fold max (Ideal.ofBits FTy.f32 4286578688#32) (fun x => (a.z (ix2 r x) : EReal)) Finset.univ = Z (p l0) := by
    rw [fold_max_of _ l0 fun k => by rw [hz, hz]; exact hl0 k, hz]
  have hcol : outCol a (ix2 r 0) = BitVec.ofNat 32 (p l) := by
    pointwise [outCol, k0_pay5, k0_pay4]
    rw [hM]
    have key : ∀ k, ((if a.z (ix2 r k) = Z (p l0) then a.c (ix2 r k) else 2147483647#32) : BitVec 32).toInt
        = if Z (p k) = Z (p l0) then (p k : ℤ) else 2147483647 := fun k => by
      rw [hz, hc]
      split
      · exact toInt_col (hlt k)
      · rfl
    refine (fold_min_of _ l (fun k => ?_) ?_).trans ?_
    · rw [key, key, if_pos hl.1]
      split
      · next h2 => exact_mod_cast hl.2 k h2
      · have := hlt l; omega
    · rw [key, if_pos hl.1]; have := hlt l; omega
    · rw [hz, if_pos hl.1, hc]
  have hL : Lead (fun d => d < 12800 * n) Z (p l) := lanes hp hl0 ⟨hl.1, rfl⟩ hl.2
  refine ⟨p l, hL, hcol, ?_⟩
  have hcol' := hcol
  unfold outCol at hcol'
  have key : ∀ k, (Scalar.select (IntOp.andi (IntOp.cmpi CmpIPredicate.eq (a.c (ix2 r k)) (BitVec.ofNat 32 (p l)))
      (BitVec.ofBool (decide (a.z (ix2 r k) = Z (p l0))))) (a.e (ix2 r k)) 0 : EReal) = if p k = p l then E (p k) else 0 := fun k => by
    rw [hz, hc, he]
    exact chosen (hlt k) (hlt l) fun e => by rw [e]; exact hl.1
  have hq := fold_max_of (fun k => (Scalar.select (IntOp.andi (IntOp.cmpi CmpIPredicate.eq (a.c (ix2 r k)) (BitVec.ofNat 32 (p l)))
      (BitVec.ofBool (decide (a.z (ix2 r k) = Z (p l0))))) (a.e (ix2 r k)) 0 : EReal)) l fun k => by
    show (_ : EReal) ≤ _
    rw [key, key, if_pos rfl]
    split
    · next e => rw [e]
    · exact hE _
  pointwise [outVal, k0_pay6, k0_pay4]
  rw [hM, hcol', hq, key, if_pos rfl]

end Cert.KernelIdeal.Sweep

end
-- ==== Proof.Out.lean ====
/-
  What the sweep leaves in its two result arrays, and what its staged blocks read of the argument and of the noise table.
-/
module

public import proofs.«01_k».proof.Proof.Run
public import Idealize.ShloMosaic.Lib.Pipeline.Value
public import Idealize.ShloMosaic.Lib.Pointwise

@[expose] public section

noncomputable section

namespace Cert.KernelIdeal.Sweep

open Cert.KernelIdeal Cert.KernelIdeal.Gen
open Idealize.ShloMosaic Idealize.ShloMosaic.TcCoe Idealize.SL.Sem
open Idealize.ShloMosaic.Pipeline (Dat Window)

variable {F : FTy → Type} [FloatOps F] [Named F]
variable (m : (ℓ : Loc nD τ sig) → Buf (Elt F) ℓ) (ρ : Dev nD → PrngReg)

/-! ## The result arrays -/

theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)

/-- The last point. -/
abbrev last : Fin cfg0.N := ⟨7, lt_of_lt_of_eq (by decide) N_0.symm⟩

theorem mem_blk_2 (t : Fin cfg0.N) (i : S128x1.Idx) : i ∈ ((cfg0.win 2).blk t).view.set := by
  show i ∈ ((View.whole main_v0_0).slice (win0_2.rect t)).set
  rw [View.set_slice_whole, Rect.mem_set_unit]
  obtain ⟨e0, e1⟩ := index_2 t
  intro a
  match a with
  | ⟨0, _⟩ => show win0_2.index t (0 : Fin 2) * 128 ≤ (i 0).val ∧ (i 0).val < win0_2.index t (0 : Fin 2) * 128 + 128
              have : (i 0).val < 128 := (i 0).isLt
              omega
  | ⟨1, _⟩ => show win0_2.index t (1 : Fin 2) * 1 ≤ (i 1).val ∧ (i 1).val < win0_2.index t (1 : Fin 2) * 1 + 1
              have : (i 1).val < 1 := (i 1).isLt
              omega
theorem mem_blk_3 (t : Fin cfg0.N) (i : S128x1.Idx) : i ∈ ((cfg0.win 3).blk t).view.set := by
  show i ∈ ((View.whole main_v0_1).slice (win0_3.rect t)).set
  rw [View.set_slice_whole, Rect.mem_set_unit]
  obtain ⟨e0, e1⟩ := index_3 t
  intro a
  match a with
  | ⟨0, _⟩ => show win0_3.index t (0 : Fin 2) * 128 ≤ (i 0).val ∧ (i 0).val < win0_3.index t (0 : Fin 2) * 128 + 128
              have : (i 0).val < 128 := (i 0).isLt
              omega
  | ⟨1, _⟩ => show win0_3.index t (1 : Fin 2) * 1 ≤ (i 1).val ∧ (i 1).val < win0_3.index t (1 : Fin 2) * 1 + 1
              have : (i 1).val < 1 := (i 1).isLt
              omega

theorem flushed_2 (c : Dev nD) (t : Fin cfg0.N) (hf : (cfg0.win 2).flush t = true) :
    (dats m 0 c).flushed 2 t = ((cfg0.win 2).blk t).view.read (Elt F) (outCol (accAt m c 8)) := by
  show (cfg0.win 2).cut (grid0.coords t) ((dats m 0 c).after 2 t) = _
  have hm : t.val % 8 = 7 := (flush0_2 t).mp hf
  have ht : t.val < 8 := Nat.lt_of_lt_of_eq t.isLt N_0
  rw [after_2, show t.val + 1 = 8 by omega]
  obtain ⟨e0, e1⟩ := index_2 t
  funext y
  have hb0 : (((cfg0.win 2).blk t).view.emb y 0).val = win0_2.index t (0 : Fin 2) * 128 + 1 * (y 0).val := rfl
  have hb1 : (((cfg0.win 2).blk t).view.emb y 1).val = win0_2.index t (1 : Fin 2) * 1 + 1 * (y 1).val := rfl
  generalize outCol (accAt m c 8) = o
  show o ((cfg0.win 2).xinj (grid0.coords t) y) = o (((cfg0.win 2).blk t).view.emb y)
  refine congrArg o (funext fun a => Fin.ext ?_)
  match a with
  | ⟨0, _⟩ => show (y 0).val = (((cfg0.win 2).blk t).view.emb y 0).val; rw [hb0]; omega
  | ⟨1, _⟩ => show (y 1).val = (((cfg0.win 2).blk t).view.emb y 1).val; rw [hb1]; omega
theorem flushed_3 (c : Dev nD) (t : Fin cfg0.N) (hf : (cfg0.win 3).flush t = true) :
    (dats m 0 c).flushed 3 t = ((cfg0.win 3).blk t).view.read (Elt F) (outVal (accAt m c 8)) := by
  show (cfg0.win 3).cut (grid0.coords t) ((dats m 0 c).after 3 t) = _
  have hm : t.val % 8 = 7 := (flush0_3 t).mp hf
  have ht : t.val < 8 := Nat.lt_of_lt_of_eq t.isLt N_0
  rw [after_3, show t.val + 1 = 8 by omega]
  obtain ⟨e0, e1⟩ := index_3 t
  funext y
  have hb0 : (((cfg0.win 3).blk t).view.emb y 0).val = win0_3.index t (0 : Fin 2) * 128 + 1 * (y 0).val := rfl
  have hb1 : (((cfg0.win 3).blk t).view.emb y 1).val = win0_3.index t (1 : Fin 2) * 1 + 1 * (y 1).val := rfl
  refine congrArg (outVal (accAt m c 8)) (funext fun a => Fin.ext ?_)
  match a with
  | ⟨0, _⟩ => show (y 0).val = (((cfg0.win 3).blk t).view.emb y 0).val; rw [hb0]; omega
  | ⟨1, _⟩ => show (y 1).val = (((cfg0.win 3).blk t).view.emb y 1).val; rw [hb1]; omega

theorem final_2 (c : Dev nD) : (dats m 0 c).arrAt 2 cfg0.N = outCol (accAt m c 8) :=
  (dats m 0 c).arrAt_eq_of_cover 2 _ (fun t hf => flushed_2 m c t hf) fun i => ⟨last, (flush0_2 last).2 rfl, mem_blk_2 last i⟩
theorem final_3 (c : Dev nD) : (dats m 0 c).arrAt 3 cfg0.N = outVal (accAt m c 8) :=
  (dats m 0 c).arrAt_eq_of_cover 3 _ (fun t hf => flushed_3 m c t hf) fun i => ⟨last, (flush0_3 last).2 rfl, mem_blk_3 last i⟩

/-- The run's results, the argument as launched. -/
theorem run_results : θ_run defs (onTc (τ := τ) (main (F := F))) ⟨m, fun _ => 0, ρ⟩ fun r => ∀ c : Dev nD,
      r.2.mem ((c.tc : Thread nD τ).loc main_v0_0) = outCol (accAt m c 8)
      ∧ r.2.mem ((c.tc : Thread nD τ).loc main_v0_1) = outVal (accAt m c 8)
      ∧ r.2.mem ((c.tc : Thread nD τ).loc main_arg0) = m ((c.tc : Thread nD τ).loc main_arg0) :=
  (θ_run defs _ _).mono (fun r h c => ⟨((h c).1 2).trans (final_2 m c), ((h c).1 3).trans (final_3 m c),
    ((h c).1 0).trans (((dats m 0 c).arrAt_in 0 rfl _).trans ((A_eq m c 0).trans (V_main_arg0 m c)))⟩) (run_main m ρ)

/-! ## The staged blocks -/

theorem index_0 : ∀ t : Fin cfg0.N, win0_0.index t (0 : Fin 2) = 0 ∧ win0_0.index t (1 : Fin 2) = t.val :=
  (by decide +kernel : ∀ t : Fin grid0.N, _)
theorem index_1 : ∀ t : Fin cfg0.N, win0_1.index t (0 : Fin 2) = 0 ∧ win0_1.index t (1 : Fin 2) = t.val :=
  (by decide +kernel : ∀ t : Fin grid0.N, _)

theorem qblk_apply (c : Dev nD) (t : Fin cfg0.N) (J : S128x12800.Idx) (h : 12800 * t.val + (J 1).val < 100000) :
    qblk m c t J = m ((c.tc : Thread nD τ).loc main_arg0) (ix2 (J 0) ⟨12800 * t.val + (J 1).val, h⟩ : S128x100000.Idx) := by
  have hm : win0_0.moved (grid0.coords t) J = true := by_contra fun hm => past_0 t J hm h
  unfold qblk Window.fill
  rw [dif_pos hm, ← V_main_arg0 m c]
  obtain ⟨e0, e1⟩ := index_0 t
  refine congrArg (V m c main_arg0) (funext fun a => Fin.ext ?_)
  match a with
  | ⟨0, _⟩ => show win0_0.index t (0 : Fin 2) * 128 + 1 * (J 0).val = (J 0).val; omega
  | ⟨1, _⟩ => show win0_0.index t (1 : Fin 2) * 12800 + 1 * (J 1).val = 12800 * t.val + (J 1).val; omega

theorem gblk_apply (c : Dev nD) (t : Fin cfg0.N) (J : S128x12800.Idx) (h : 12800 * t.val + (J 1).val < 100000) :
    gblk m c t J = V m c main_call0_v180 (ix2 (J 0) ⟨12800 * t.val + (J 1).val, h⟩ : S128x100000.Idx) := by
  have hm : win0_1.moved (grid0.coords t) J = true := by_contra fun hm => past_1 t J hm h
  unfold gblk Window.fill
  rw [dif_pos hm]
  obtain ⟨e0, e1⟩ := index_1 t
  refine congrArg (V m c main_call0_v180) (funext fun a => Fin.ext ?_)
  match a with
  | ⟨0, _⟩ => show win0_1.index t (0 : Fin 2) * 128 + 1 * (J 0).val = (J 0).val; omega
  | ⟨1, _⟩ => show win0_1.index t (1 : Fin 2) * 12800 + 1 * (J 1).val = 12800 * t.val + (J 1).val; omega

end Cert.KernelIdeal.Sweep

end
-- ==== Proof.KernelVal.lean ====
/-
  The kernel's two results at a row: the first column with the greatest score, and the exponential there over the sum of
  the row's exponentials.
-/
module

public import proofs.«01_k».proof.Proof.Finish
public import proofs.«01_k».proof.Proof.Out

@[expose] public section

noncomputable section

namespace Cert.KernelIdeal.Sweep

open Cert.KernelIdeal Cert.KernelIdeal.Gen Idealize.ShloMosaic Idealize.ShloMosaic.TcCoe Idealize.SL.Sem Cert.Scan

variable (m : (ℓ : Loc nD τ sig) → Buf (Elt Ideal) ℓ)

/-- An entry over the temperature (one fifth, as its word reads), the body multiplying by the reciprocal. -/
def over (x : EReal) : EReal := x * ((67108864 / 13421773 : ℝ) : EReal)

theorem inv_alpha_eq : (Named.named κ "inv_alpha" (0x40A00000#32 : BitVec 32) : Ideal .f32) = ((67108864 / 13421773 : ℝ) : EReal) :=
  IdealRules.named_const.ideal_named_scalar _ _ _ _ rfl

/-- Row `r`'s scores (noise plus the argument over the temperature) and exponentials by column; past the last column nothing. -/
def Z (q g : Fin 128 → Fin 100000 → EReal) (r : Fin 128) (d : ℕ) : EReal := if h : d < 100000 then g r ⟨d, h⟩ + over (q r ⟨d, h⟩) else ⊥
def E (q : Fin 128 → Fin 100000 → EReal) (r : Fin 128) (d : ℕ) : EReal := if h : d < 100000 then Ideal.exp (over (q r ⟨d, h⟩)) else 0

theorem exp_nonneg (x : EReal) : 0 ≤ Ideal.exp x := by
  induction x using EReal.rec with
  | bot => exact le_refl _
  | top => exact le_top
  | coe x => rw [Ideal.exp_coe]; exact_mod_cast (Real.exp_pos x).le

theorem E_nonneg (q : Fin 128 → Fin 100000 → EReal) (r : Fin 128) (d : ℕ) : 0 ≤ E q r d := by
  unfold E; split
  · exact exp_nonneg _
  · exact le_refl _

theorem mask_eq : (Named.named κ "mask" (0xFF61B1E6#32 : BitVec 32) : Ideal .f32) = (⊥ : EReal) :=
  IdealRules.named_const.ideal_named_scalar _ _ _ _ rfl

/-- The argument's and the noise table's entries. -/
def Q (c : Dev nD) (r : Fin 128) (d : Fin 100000) : EReal := m ((c.tc : Thread nD τ).loc main_arg0) (ix2 r d : S128x100000.Idx)
def G (c : Dev nD) (r : Fin 128) (d : Fin 100000) : EReal := V m c main_call0_v180 (ix2 r d : S128x100000.Idx)

theorem zblk_apply (c : Dev nD) (t : Fin cfg0.N) (J : S128x12800.Idx) :
    zblk m c t J = Z (Q m c) (G m c) (J 0) (12800 * t.val + (J 1).val) := by
  unfold zblk k0_pay14 k0_pay12 Z
  simp only [select, addf, mulf, shapeCast_self, broadcast, inv_alpha_eq]
  by_cases h : 12800 * t.val + (J 1).val < 100000
  · rw [dif_pos h]
    refine (if_pos ((live_iff t J).mpr h)).trans ?_
    rw [gblk_apply m c t J h, qblk_apply m c t J h]
    rfl
  · rw [dif_neg h]
    exact (if_neg fun h' => h ((live_iff t J).mp h')).trans mask_eq

theorem eblk_apply (c : Dev nD) (t : Fin cfg0.N) (J : S128x12800.Idx) :
    eblk m c t J = E (Q m c) (J 0) (12800 * t.val + (J 1).val) := by
  unfold eblk k0_pay13 k0_pay12 E
  simp only [select, exp, mulf, broadcast, inv_alpha_eq]
  by_cases h : 12800 * t.val + (J 1).val < 100000
  · rw [dif_pos h]
    refine (if_pos ((live_iff t J).mpr h)).trans ?_
    rw [qblk_apply m c t J h]
    rfl
  · rw [dif_neg h]
    refine (if_neg fun h' => h ((live_iff t J).mp h')).trans ?_
    show Ideal.ofBits .f32 0x00000000#32 = 0
    simp [Ideal.ofBits, Ideal.ieee]

/-- What a lane holds after `n` blocks. -/
theorem acc_held (c : Dev nD) (r l : Fin 128) (h0 : ⊥ < Z (Q m c) (G m c) r l.val) (n : ℕ) (hn : n ≤ 8) :
    Held (Z (Q m c) (G m c) r) (E (Q m c) r) n l.val ((accAt m c n).z (ix2 r l)) ((accAt m c n).c (ix2 r l)) ((accAt m c n).e (ix2 r l))
      ∧ (accAt m c n).s (ix2 r l) = ∑ t ∈ Finset.range n, ∑ k ∈ Finset.range 100, E (Q m c) r (12800 * t + 128 * k + l.val) := by
  induction n with
  | zero =>
    refine ⟨.inl ⟨rfl, ?_⟩, ?_⟩
    · show (start (F := Ideal)).z (ix2 r l) = _
      simp only [start, k0_pay7, shapeCast_self]
      exact mask_eq
    · show (start (F := Ideal)).s (ix2 r l) = _
      simp only [start, k0_pay10, shapeCast_self, Finset.range_zero, Finset.sum_empty]
      show Ideal.ofBits .f32 0x00000000#32 = 0
      simp [Ideal.ofBits, Ideal.ieee]
  | succ n ih =>
    obtain ⟨ih1, ih2⟩ := ih (by omega)
    let t : Fin cfg0.N := ⟨n, lt_of_lt_of_eq (by omega) N_0.symm⟩
    have e := accAt_succ m c t
    have ct : (grid0.coords t 1).val = n := coord1 t
    have hz : ∀ J : S128x12800.Idx, J 0 = (ix2 r l : S128x128.Idx) 0 →
        zblk m c t J = Z (Q m c) (G m c) r (12800 * (grid0.coords t 1).val + (J 1).val) := fun J hJ => by
      rw [zblk_apply, hJ, coord1]; rfl
    have he : ∀ J : S128x12800.Idx, J 0 = (ix2 r l : S128x128.Idx) 0 →
        eblk m c t J = E (Q m c) r (12800 * (grid0.coords t 1).val + (J 1).val) := fun J hJ => by
      rw [eblk_apply, hJ, coord1]; rfl
    have H := fold_held (grid0.coords t) (zblk m c t) (eblk m c t) (accAt m c n) (ix2 r l) (Z := Z (Q m c) (G m c) r) (E := E (Q m c) r) h0 hz he (by rw [ct]; exact ih1)
    have H' := fold_sum (grid0.coords t) (zblk m c t) (eblk m c t) (accAt m c n) (ix2 r l) (E := E (Q m c) r) he
    rw [ct] at H H'
    rw [show accAt m c (n + 1) = _ from e]
    exact ⟨H, by rw [H', Finset.sum_range_succ (n := n), ih2]; rfl⟩

/-- The results at row `r`. -/
theorem value (c : Dev nD) (r : Fin 128) (h0 : ∀ d < 128, ⊥ < Z (Q m c) (G m c) r d) :
    ∃ p, Lead (fun d => d < 100000) (Z (Q m c) (G m c) r) p ∧ outCol (accAt m c 8) (ix2 r 0) = BitVec.ofNat 32 p
      ∧ outVal (accAt m c 8) (ix2 r 0) = Ideal.div (E (Q m c) r p) (∑ d ∈ Finset.range 100000, E (Q m c) r d) := by
  obtain ⟨p, hp, e1, e2⟩ := results (accAt m c 8) r (E_nonneg (Q m c) r) (n := 8) (by decide) (le_refl _)
    fun l => (acc_held m c r l (h0 l.val l.isLt) 8 (le_refl _)).1
  have hlt : p < 100000 := by
    by_contra h
    have h1 : Z (Q m c) (G m c) r p = ⊥ := by unfold Z; rw [dif_neg h]
    have h2 := (hp.2 0 (by decide)).1
    rw [h1] at h2
    exact absurd (h0 0 (by decide)) (not_lt.2 h2)
  refine ⟨p, ⟨hlt, fun d hd => hp.2 d (lt_of_lt_of_le hd (by decide))⟩, e1, e2.trans (congrArg _ ?_)⟩
  rw [Finset.sum_congr rfl fun l _ => (acc_held m c r l (h0 l.val l.isLt) 8 (le_refl _)).2,
    ← Finset.sum_range (fun l => ∑ t ∈ Finset.range 8, ∑ k ∈ Finset.range 100, E (Q m c) r (12800 * t + 128 * k + l)),
    sum_lanes (E (Q m c) r) 8, show 12800 * 8 = 100000 + 2400 from rfl, Finset.sum_range_add]
  refine (congrArg _ (Finset.sum_eq_zero fun d _ => ?_)).trans (add_zero _)
  unfold E; rw [dif_neg (by omega)]

end Cert.KernelIdeal.Sweep

end
-- ==== Proof.Words.lean ====
/-
  The counter generator's words: the rounds over a table, the same rounds word by word, and that the kernel's shortened
  rounds (the zero half of the key left out, constants folded, the first sum skipped) give the same word.
-/
module

public import Idealize.ShloMosaic.Lib.StableHlo
public import Idealize.ShloMosaic.Lib.Tactic

@[expose] public section

namespace Cert.Words

open Idealize.ShloMosaic

/-- The two halves of a table's state. -/
abbrev Two (s : Shape) : Type := IVec s 32 × IVec s 32

section Table

variable {s : Shape} (k : BitVec 32 → IVec s 32)

/-- Rotated left by `a` (right by `b`). -/
def rot (x : IVec s 32) (a b : BitVec 32) : IVec s 32 := ori (Host.shli x (k a)) (Host.shrui x (k b))

/-- The second half mixed with the first (already summed), the first operand of the mixing the sum. -/
def mix (p q : IVec s 32) (a b : BitVec 32) : IVec s 32 := xori p (rot k q a b)

/-- The same with the operands of the mixing the other way round. -/
def mix' (p q : IVec s 32) (a b : BitVec 32) : IVec s 32 := xori (rot k q a b) p

/-- Four rounds with rotations `a b c d`: the sum, the mixing, and so on; the last sum is left to the caller. -/
def four (m : IVec s 32 → IVec s 32 → BitVec 32 → BitVec 32 → IVec s 32) (a b c d : BitVec 32) (x : Two s) : Two s :=
  let y := m x.1 x.2 a (32#32 - a)
  let p := addi x.1 y
  let y' := m p y b (32#32 - b)
  let p' := addi p y'
  let y'' := m p' y' c (32#32 - c)
  let p'' := addi p' y''
  (p'', m p'' y'' d (32#32 - d))

def odd (m : IVec s 32 → IVec s 32 → BitVec 32 → BitVec 32 → IVec s 32) : Two s → Two s := four m 13#32 15#32 26#32 6#32
def even (m : IVec s 32 → IVec s 32 → BitVec 32 → BitVec 32 → IVec s 32) : Two s → Two s := four m 17#32 29#32 16#32 24#32

/-- A key added to each half, then the group's number to the second. -/
def key (u v i : BitVec 32) (x : Two s) : Two s := (addi x.1 (k u), addi (addi x.2 (k v)) (k i))

/-- The first half replaced by the sum of both. -/
def sum (x : Two s) : Two s := (addi x.1 x.2, x.2)

/-- The cipher's word of the counter table `n` under the key (0, 42), the halves combined. -/
def word (n : IVec s 32) : IVec s 32 :=
  let x := sum (addi (k 0#32) (k 0#32), addi n (k 42#32))
  let x := sum (key k 42#32 466689008#32 1#32 (odd (mix k) x))
  let x := sum (key k 466689008#32 0#32 2#32 (even (mix k) x))
  let x := sum (key k 0#32 42#32 3#32 (odd (mix k) x))
  let x := sum (key k 42#32 466689008#32 4#32 (even (mix k) x))
  let x := key k 466689008#32 0#32 5#32 (odd (mix k) x)
  xori x.1 x.2

/-- The same, as the kernel's table makes it. -/
def short (n : IVec s 32) : IVec s 32 :=
  let x := (addi n (k 42#32), addi n (k 42#32))
  let x := odd (mix' k) x
  let x := sum (addi x.1 (k 42#32), addi x.2 (k 466689009#32))
  let x := even (mix' k) x
  let x := sum (addi x.1 (k 466689008#32), addi x.2 (k 2#32))
  let x := odd (mix' k) x
  let x := sum (x.1, addi x.2 (k 45#32))
  let x := even (mix' k) x
  let x := sum (addi x.1 (k 42#32), addi x.2 (k 466689012#32))
  let x := odd (mix' k) x
  xori (addi x.1 (k 466689008#32)) (addi x.2 (k 5#32))

/-- A word's spread is that word at every index. -/
def Spread (k : BitVec 32 → IVec s 32) : Prop := ∀ b i, k b i = b

variable {k}

theorem mix'_eq : mix' k = mix k := by
  funext p q a b i
  exact BitVec.xor_comm _ _

theorem key_eq (h : Spread k) (u v i w : BitVec 32) (e : v + i = w) (x : Two s) :
    key k u v i x = (addi x.1 (k u), addi x.2 (k w)) := by
  refine Prod.ext rfl (funext fun j => ?_)
  show (x.2 j + k v j) + k i j = x.2 j + k w j
  rw [h, h, h, BitVec.add_assoc, e]

theorem addi_zero (h : Spread k) (x : IVec s 32) : addi x (k 0#32) = x := funext fun j => by
  show x j + k 0#32 j = x j
  rw [h]; exact BitVec.add_zero _

theorem start_eq (h : Spread k) (n : IVec s 32) :
    sum (k 0#32, addi n (k 42#32)) = (addi n (k 42#32), addi n (k 42#32)) := by
  refine Prod.ext (funext fun j => ?_) rfl
  show k 0#32 j + (n j + k 42#32 j) = n j + k 42#32 j
  rw [h 0#32]; exact BitVec.zero_add _

/-- Both ways give one word. -/
theorem short_eq (h : Spread k) (n : IVec s 32) : short k n = word k n := by
  unfold short word
  simp only [start_eq h, mix'_eq, key_eq h 42#32 466689008#32 1#32 466689009#32 rfl, key_eq h 466689008#32 0#32 2#32 2#32 rfl,
    key_eq h 0#32 42#32 3#32 45#32 rfl, key_eq h 42#32 466689008#32 4#32 466689012#32 rfl,
    key_eq h 466689008#32 0#32 5#32 5#32 rfl, addi_zero h]

end Table

/-- The cipher of one counter word. -/
def one (n : BitVec 32) : BitVec 32 :=
  word (s := ⟨0, ![]⟩) (fun b _ => b) (fun _ => n) (fun a => a.elim0)

/-- The table's word at an index is the cipher of the counter there. -/
theorem word_apply {s : Shape} {k : BitVec 32 → IVec s 32} (h : Spread k) (n : IVec s 32) (i : s.Idx) :
    word k n i = one (n i) := by
  obtain rfl : k = fun b _ => b := funext fun b => funext fun i => h b i
  rfl

end Cert.Words
-- ==== Proof.KerTable.lean ====
/-
  The kernel's noise table: what its host operations leave, as a function of the counters.
-/
module

public import proofs.«01_k».proof.Proof.KernelVal
public import proofs.«01_k».proof.Proof.Words

@[expose] public section

set_option maxRecDepth 65536

noncomputable section

namespace Cert.KernelIdeal.Host

open Cert.KernelIdeal Cert.KernelIdeal.Gen Cert.Words
open Idealize.ShloMosaic Idealize.ShloMosaic.TcCoe Idealize.ShloMosaic.Tactic Idealize.ShloMosaic.StableHlo
open Idealize.SL Idealize.SL.Sem

variable {F : FTy → Type} [FloatOps F] (V : Valuation τ sig (Elt F))

/-- A word spread over the flat table. -/
def spread (b : BitVec 32) : IVec S12800000 32 := broadcastInDim S12800000 ![] bcast_S_S12800000 (constantI S_ 32 b)

/-- A scalar spread over the flat table. -/
def wide (b : BitVec 32) : FVec F S12800000 .f32 := broadcastInDim S12800000 ![] bcast_S_S12800000 (constant S_ .f32 b)

/-- The noise made of a flat table of random words. -/
def gumbel (w : IVec S12800000 32) : FVec F S12800000 .f32 :=
  Host.negf (Host.log (Host.negf (Host.log (maximumf (wide 0x00800000#32)
    (addf (mulf (subf (bitcastToFloat .f32 (ori (Host.shrui w (spread 9#32)) (spread 1065353216#32))) (wide 0x3F800000#32))
      (wide 0x3F800000#32))
      (wide 0x00800000#32))))))

/-- The counters. -/
def count : IVec S12800000 32 := iotaInDim S12800000 32 0

/-- `n` host operations from the `a`-th on. -/
def part (a n : ℕ) : List (HloOp τ sig (Elt F)) := (hostOps0.drop a).take n

theorem start_v2 : (after (part 0 4) V (Proc.devRef .tc main_call0_v2) : IVec S12800000 32) = addi count (spread 42#32) := by sl_kernel_rfl

theorem group1_pair : ((after (part 4 42) V (Proc.devRef .tc main_call0_v34) : IVec S12800000 32), (after (part 4 42) V (Proc.devRef .tc main_call0_v33) : IVec S12800000 32))
    = let x := odd (mix' spread) ((V (Proc.devRef .tc main_call0_v2) : IVec S12800000 32), (V (Proc.devRef .tc main_call0_v2) : IVec S12800000 32))
      sum (addi x.1 (spread 42#32), addi x.2 (spread 466689009#32)) := by sl_kernel_rfl

theorem group2_pair : ((after (part 46 42) V (Proc.devRef .tc main_call0_v66) : IVec S12800000 32), (after (part 46 42) V (Proc.devRef .tc main_call0_v65) : IVec S12800000 32))
    = let x := even (mix' spread) ((V (Proc.devRef .tc main_call0_v34) : IVec S12800000 32), (V (Proc.devRef .tc main_call0_v33) : IVec S12800000 32))
      sum (addi x.1 (spread 466689008#32), addi x.2 (spread 2#32)) := by sl_kernel_rfl

theorem group3_pair : ((after (part 88 42) V (Proc.devRef .tc main_call0_v98) : IVec S12800000 32), (after (part 88 42) V (Proc.devRef .tc main_call0_v97) : IVec S12800000 32))
    = let x := odd (mix' spread) ((V (Proc.devRef .tc main_call0_v66) : IVec S12800000 32), (V (Proc.devRef .tc main_call0_v65) : IVec S12800000 32))
      sum (addi x.1 (spread 0#32), addi x.2 (spread 45#32)) := by sl_kernel_rfl

theorem group4_pair : ((after (part 130 42) V (Proc.devRef .tc main_call0_v130) : IVec S12800000 32), (after (part 130 42) V (Proc.devRef .tc main_call0_v129) : IVec S12800000 32))
    = let x := even (mix' spread) ((V (Proc.devRef .tc main_call0_v98) : IVec S12800000 32), (V (Proc.devRef .tc main_call0_v97) : IVec S12800000 32))
      sum (addi x.1 (spread 42#32), addi x.2 (spread 466689012#32)) := by sl_kernel_rfl

theorem group5_v162 : (after (part 172 42) V (Proc.devRef .tc main_call0_v162) : IVec S12800000 32)
    = let x := odd (mix' spread) ((V (Proc.devRef .tc main_call0_v130) : IVec S12800000 32), (V (Proc.devRef .tc main_call0_v129) : IVec S12800000 32))
      xori (addi x.1 (spread 466689008#32)) (addi x.2 (spread 5#32)) := by sl_kernel_rfl

theorem noise_v179 : (after (part 214 23) V (Proc.devRef .tc main_call0_v179) : FVec F S12800000 .f32)
    = gumbel (V (Proc.devRef .tc main_call0_v162) : IVec S12800000 32) := by sl_kernel_rfl

theorem shape_v180 : (after (part 237 1) V (Proc.devRef .tc main_call0_v180) : FVec F S128x100000 .f32)
    = shapeCast S128x100000 (V (Proc.devRef .tc main_call0_v179) : FVec F S12800000 .f32) shapeCasts_S12800000_S128x100000 := by
  show after [StableHlo.TRef.reshape (.of main_call0_v179 : StableHlo.TRef sig ⟨S12800000, .f32⟩) (.of main_call0_v180 : StableHlo.TRef sig ⟨S128x100000, .f32⟩) (rfl : (.f32 : EltTy) = .f32) shapeCasts_S12800000_S128x100000] V (Proc.devRef .tc main_call0_v180) = _
  after_results
  rfl

theorem after_append (l k : List (HloOp τ sig (Elt F))) : after (l ++ k) V = after k (after l V) := by
  induction l generalizing V with
  | nil => rfl
  | cons a l ih => exact ih _

theorem spread_spreads : Spread spread := fun _ _ => rfl

theorem addi_zero (x : IVec S12800000 32) : addi x (spread 0#32) = x := funext fun i => BitVec.add_zero (x i)

/-- The parts in a row are the whole list. -/
theorem parts : (hostOps0 : List (HloOp τ sig (Elt F)))
    = part 0 4 ++ (part 4 42 ++ (part 46 42 ++ (part 88 42 ++ (part 130 42 ++ (part 172 42 ++ (part 214 23 ++ part 237 1)))))) := rfl

theorem words : (after (part 172 42) (after (part 130 42) (after (part 88 42) (after (part 46 42) (after (part 4 42) (after (part 0 4) V)))))
    (Proc.devRef .tc main_call0_v162) : IVec S12800000 32) = short spread count := by
  have h1 := start_v2 V
  have h2 := group1_pair (after (part 0 4) V)
  rw [h1] at h2
  have h3 := group2_pair (after (part 4 42) (after (part 0 4) V))
  rw [h2] at h3
  have h4 := group3_pair (after (part 46 42) (after (part 4 42) (after (part 0 4) V)))
  rw [h3] at h4
  have h5 := group4_pair (after (part 88 42) (after (part 46 42) (after (part 4 42) (after (part 0 4) V))))
  rw [h4] at h5
  have h6 := group5_v162 (after (part 130 42) (after (part 88 42) (after (part 46 42) (after (part 4 42) (after (part 0 4) V)))))
  rw [h5] at h6
  rw [h6]
  unfold short
  simp only [addi_zero]

theorem table : (after hostOps0 V (Proc.devRef .tc main_call0_v180) : FVec F S128x100000 .f32)
    = shapeCast S128x100000 (gumbel (short spread count) : FVec F S12800000 .f32) shapeCasts_S12800000_S128x100000 := by
  rw [parts, after_append, after_append, after_append, after_append, after_append, after_append, after_append, shape_v180, noise_v179, words]

/-- The noise of one word. -/
def noise (w : BitVec 32) : F .f32 :=
  FloatOps.hostNegf (FloatOps.hostUnary .log (FloatOps.hostNegf (FloatOps.hostUnary .log (FloatOps.maximumf (FloatOps.ofBits .f32 0x00800000#32)
    (FloatOps.addf (FloatOps.mulf (FloatOps.subf (FloatOps.ofBits .f32 (w >>> 9 ||| 1065353216#32)) (FloatOps.ofBits .f32 0x3F800000#32))
      (FloatOps.ofBits .f32 0x3F800000#32)) (FloatOps.ofBits .f32 0x00800000#32))))))

theorem gumbel_apply (w : IVec S12800000 32) (i : S12800000.Idx) : (gumbel w : FVec F S12800000 .f32) i = noise (w i) := rfl

end Cert.KernelIdeal.Host

end
-- ==== Proof.Noise.lean ====
/-
  The noise of a word is a finite number.
-/
module

public import proofs.«01_k».proof.Proof.KerTable

@[expose] public section

noncomputable section

namespace Cert.KernelIdeal.Host

open Cert.KernelIdeal Idealize.ShloMosaic

theorem joined (w : BitVec 32) : (w >>> 9 ||| 1065353216#32).toNat = 1065353216 + w.toNat / 512 := by
  have h : w.toNat / 512 < 2 ^ 23 := by have := w.isLt; omega
  rw [BitVec.toNat_or, BitVec.toNat_ushiftRight, Nat.shiftRight_eq_div_pow, Nat.or_comm]
  exact (Nat.two_pow_add_eq_or_of_lt h 127).symm

/-- A word's upper bits as a fraction put on the number one. -/
theorem fraction (w : BitVec 32) : ∃ f : ℝ, 0 ≤ f ∧ f + 1 / 8388608 ≤ 1 ∧ Ideal.ofBits .f32 (w >>> 9 ||| 1065353216#32) = ((1 + f : ℝ) : EReal) := by
  have hw : w.toNat / 512 < 8388608 := by have := w.isLt; omega
  have h0 := joined w
  generalize w >>> 9 ||| 1065353216#32 = b at h0
  have e1 : (b.extractLsb' 31 1 == 1#1) = false := by
    rw [beq_eq_false_iff_ne]
    intro h
    have h' := congrArg BitVec.toNat h
    rw [BitVec.extractLsb'_toNat, Nat.shiftRight_eq_div_pow, h0] at h'
    norm_num at h'
    omega
  have e2 : (b.extractLsb' 23 8).toNat = 127 := by
    rw [BitVec.extractLsb'_toNat, Nat.shiftRight_eq_div_pow, h0]
    omega
  have e3 : (b.extractLsb' 0 23).toNat = w.toNat / 512 := by
    rw [BitVec.extractLsb'_toNat, Nat.shiftRight_eq_div_pow, h0]
    omega
  refine ⟨((w.toNat / 512 : ℕ) : ℝ) / 8388608, by positivity, ?_, ?_⟩
  · rw [← add_div, div_le_one (by norm_num)]
    exact_mod_cast hw
  · show Ideal.ieee 8 23 b = _
    unfold Ideal.ieee
    simp only [e1, e2, e3]
    rw [if_neg (by norm_num), if_neg (by norm_num)]
    refine congrArg Real.toEReal ?_
    push_cast
    norm_num
    ring

theorem tiny : ∃ t : ℝ, 0 < t ∧ t < 1 / 8388608 ∧ Ideal.ofBits .f32 0x00800000#32 = (t : EReal) := by
  refine ⟨(2 : ℝ) ^ (-126 : ℤ), by positivity, ?_, ?_⟩
  · norm_num
  · simp only [Ideal.ofBits, Ideal.ieee]
    rw [if_neg (by decide), if_neg (by decide)]
    refine congrArg Real.toEReal ?_
    simp
    norm_num

theorem unit : Ideal.ofBits .f32 0x3F800000#32 = ((1 : ℝ) : EReal) := by
  simp only [Ideal.ofBits, Ideal.ieee]
  rw [if_neg (by decide), if_neg (by decide)]
  refine congrArg Real.toEReal ?_
  simp
  norm_num

theorem log_real {r : ℝ} (h : 0 < r) : Ideal.log (r : EReal) = ((Real.log r : ℝ) : EReal) := if_neg (not_le.mpr h)

theorem noise_real (w : BitVec 32) : ∃ y : ℝ, (noise w : Ideal .f32) = (y : EReal) := by
  obtain ⟨f, f0, f1, hf⟩ := fraction w
  obtain ⟨t, t0, t1, ht⟩ := tiny
  have hu : max (t : EReal) ((((1 + f : ℝ) : EReal) - ((1 : ℝ) : EReal)) * ((1 : ℝ) : EReal) + (t : EReal)) = ((f + t : ℝ) : EReal) := by
    rw [← EReal.coe_sub, ← EReal.coe_mul, ← EReal.coe_add, show (1 + f - 1) * 1 + t = f + t by ring]
    exact max_eq_right (EReal.coe_le_coe_iff.mpr (by linarith))
  have u0 : 0 < f + t := by linarith
  have u1 : f + t < 1 := by linarith
  refine ⟨-Real.log (-Real.log (f + t)), ?_⟩
  show -(Ideal.log (-(Ideal.log (max (Ideal.ofBits .f32 0x00800000#32) ((Ideal.ofBits .f32 (w >>> 9 ||| 1065353216#32) - Ideal.ofBits .f32 0x3F800000#32)
    * Ideal.ofBits .f32 0x3F800000#32 + Ideal.ofBits .f32 0x00800000#32))))) = _
  rw [hf, ht, unit, hu, log_real u0, ← EReal.coe_neg, log_real (neg_pos.mpr (Real.log_neg u0 u1)), ← EReal.coe_neg]

end Cert.KernelIdeal.Host

end
-- ==== Proof.RefWords.lean ====
/-
  What the reference's generator windows compute, as functions of what they read.
-/
module

public import proofs.«01_k».proof.Proof.RefOps
public import proofs.«01_k».proof.Proof.Words

@[expose] public section

set_option maxRecDepth 65536

noncomputable section

namespace Cert.ReferenceIdeal.Ref

open Cert.ReferenceIdeal Cert.ReferenceIdeal.Gen Cert.Words
open Idealize.ShloMosaic Idealize.ShloMosaic.TcCoe Idealize.ShloMosaic.Tactic Idealize.ShloMosaic.StableHlo
open Idealize.SL Idealize.SL.Sem

variable {F : FTy → Type} [FloatOps F] (V : Valuation τ sig (Elt F))

/-- A word spread over the table. -/
def spread (b : BitVec 32) : IVec S128x100000 32 := broadcastInDim S128x100000 ![] bcast_S_S128x100000 (constantI S_ 32 b)

/-- A scalar spread over the table. -/
def wide (b : BitVec 32) : FVec F S128x100000 .f32 := broadcastInDim S128x100000 ![] bcast_S_S128x100000 (constant S_ .f32 b)

/-- The softmax of a table at the temperature, its least entry taken off first. -/
def soften (q : FVec F S128x100000 .f32) : FVec F S128x100000 .f32 :=
  let x := Host.divf q (wide 0x3E4CCCCD#32)
  let e := Host.exp (subf x (broadcastInDim S128x100000 ![] bcast_S_S128x100000
    (Host.reduce FloatOps.minimumf x (constant S_ .f32 0x7F800000#32) reducesTo_S128x100000_S_d0_1 h_S_)))
  Host.divf e (broadcastInDim S128x100000 ![0, 1] bcast_S128x1_S128x100000_0_1 (broadcastInDim S128x1 ![0] bcast_S128_S128x1_0
    (Host.reduceAdd e (constant S_ .f32 0x00000000#32) reducesTo_S128x100000_S128_d1 h_S_)))

/-- The noise made of a table of random words. -/
def gumbel (w : IVec S128x100000 32) : FVec F S128x100000 .f32 :=
  Host.negf (Host.log (Host.negf (Host.log (maximumf (wide 0x00800000#32)
    (addf (mulf (subf (bitcastToFloat .f32 (ori (Host.shrui w (spread 9#32)) (spread 1065353216#32))) (wide 0x3F800000#32))
      (wide 0x3F800000#32))
      (wide 0x00800000#32))))))

/-- The noise with the log-probabilities. -/
def score (q : FVec F S128x100000 .f32) (w : IVec S128x100000 32) : FVec F S128x100000 .f32 := addf (gumbel w) (Host.log (soften q))

/-- The first column of each row with the largest entry. -/
def best (x : FVec F S128x100000 .f32) : IVec S128 32 := fun j =>
  (Host.argReduce reducer_argmax_f32_i32 x (iotaInDim S128x100000 32 1) (constant S_ .f32 0xFF800000#32) (constantI S_ 32 0#32)
    reducesTo_S128x100000_S128_d1 h_S_ j).2

def bestCol (x : FVec F S128x100000 .f32) : IVec S128x1 32 := broadcastInDim S128x1 ![0] bcast_S128_S128x1_0 (best x)

/-- A column number, a negative one counted from the end. -/
def wrap (i : IVec S128x1 32) : IVec S128x1x1 32 :=
  shapeCast S128x1x1 (select (cmpi .slt i (broadcastInDim S128x1 ![] bcast_S_S128x1 (constantI S_ 32 0#32)))
    (addi i (broadcastInDim S128x1 ![] bcast_S_S128x1 (constantI S_ 32 100000#32))) i) shapeCasts_S128x1_S128x1x1

/-- Whether each column number lies in the table. -/
def inside (i : IVec S128x1x1 32) : IVec S128x1 1 :=
  Host.reduce IntOp.andi
    (andi (cmpi .sge i (broadcastInDim S128x1x1 ![] bcast_S_S128x1x1 (constantI S_ 32 0#32)))
      (cmpi .sle i (broadcastInDim S128x1x1 ![0, 1, 2] bcast_S1x1x1_S128x1x1_0_1_2
        (broadcastInDim S1x1x1 ![2] bcast_S1_S1x1x1_2 (constantI S1 32 99999#32)))))
    (constantI S_ 1 1#1) reducesTo_S128x1x1_S128x1_d2 h_S_

/-- Each row's entry at a column. -/
def entry (x : FVec F S128x100000 .f32) (i : IVec S128x1 32) : FVec F S128x1 .f32 :=
  select (inside (wrap i)) (Host.gather gather_S128x100000_S128x1x1_S128x1_n_1_0_0_1_2_11 x (wrap i))
    (broadcastInDim S128x1 ![] bcast_S_S128x1 (constant S_ .f32 0x7FC00000#32))

/-- The counters. -/
def count : IVec S128x100000 32 := shapeCast S128x100000 (iotaInDim S12800000 32 0) shapeCasts_S12800000_S128x100000

/-- The random words. -/
def words : IVec S128x100000 32 := word spread count

/-! ## Window by window -/

theorem soft_v9 : (after soft V (Proc.devRef .tc main_v9) : FVec F S128x100000 .f32) = soften (V (Proc.devRef .tc main_arg0) : FVec F S128x100000 .f32) := by
  unfold soft
  after_results
  rfl

theorem flat_v11 : (after flat V (Proc.devRef .tc main_v11) : IVec S128x100000 32) = count := by
  unfold flat
  after_results
  rfl

theorem start_pair : ((after start V (Proc.devRef .tc main_v17) : IVec S128x100000 32), (after start V (Proc.devRef .tc main_v16) : IVec S128x100000 32))
    = sum (addi (spread 0#32) (spread 0#32), addi (V (Proc.devRef .tc main_v11) : IVec S128x100000 32) (spread 42#32)) := by sl_kernel_rfl

theorem group1_pair : ((after group1 V (Proc.devRef .tc main_v51) : IVec S128x100000 32), (after group1 V (Proc.devRef .tc main_v50) : IVec S128x100000 32))
    = sum (key spread 42#32 466689008#32 1#32 (odd (mix spread) ((V (Proc.devRef .tc main_v17) : IVec S128x100000 32), (V (Proc.devRef .tc main_v16) : IVec S128x100000 32)))) := by sl_kernel_rfl

theorem group2_pair : ((after group2 V (Proc.devRef .tc main_v85) : IVec S128x100000 32), (after group2 V (Proc.devRef .tc main_v84) : IVec S128x100000 32))
    = sum (key spread 466689008#32 0#32 2#32 (even (mix spread) ((V (Proc.devRef .tc main_v51) : IVec S128x100000 32), (V (Proc.devRef .tc main_v50) : IVec S128x100000 32)))) := by sl_kernel_rfl

theorem group3_pair : ((after group3 V (Proc.devRef .tc main_v119) : IVec S128x100000 32), (after group3 V (Proc.devRef .tc main_v118) : IVec S128x100000 32))
    = sum (key spread 0#32 42#32 3#32 (odd (mix spread) ((V (Proc.devRef .tc main_v85) : IVec S128x100000 32), (V (Proc.devRef .tc main_v84) : IVec S128x100000 32)))) := by sl_kernel_rfl

theorem group4_pair : ((after group4 V (Proc.devRef .tc main_v153) : IVec S128x100000 32), (after group4 V (Proc.devRef .tc main_v152) : IVec S128x100000 32))
    = sum (key spread 42#32 466689008#32 4#32 (even (mix spread) ((V (Proc.devRef .tc main_v119) : IVec S128x100000 32), (V (Proc.devRef .tc main_v118) : IVec S128x100000 32)))) := by sl_kernel_rfl

theorem group5_pair : ((after group5 V (Proc.devRef .tc main_v182) : IVec S128x100000 32), (after group5 V (Proc.devRef .tc main_v186) : IVec S128x100000 32))
    = key spread 466689008#32 0#32 5#32 (odd (mix spread) ((V (Proc.devRef .tc main_v153) : IVec S128x100000 32), (V (Proc.devRef .tc main_v152) : IVec S128x100000 32))) := by sl_kernel_rfl

theorem noise_v206 : (after noise V (Proc.devRef .tc main_v206) : FVec F S128x100000 .f32)
    = addf (gumbel (xori (V (Proc.devRef .tc main_v182) : IVec S128x100000 32) (V (Proc.devRef .tc main_v186) : IVec S128x100000 32))) (Host.log (V (Proc.devRef .tc main_v9) : FVec F S128x100000 .f32)) := by sl_kernel_rfl

theorem largest_v207 : (after (largest (.of main_v206) main_call0) V (Proc.devRef .tc main_v207) : IVec S128 32) = best (V (Proc.devRef .tc main_v206) : FVec F S128x100000 .f32) := by
  sl_kernel_rfl

theorem column_v208 : (after column V (Proc.devRef .tc main_v208) : IVec S128x1 32)
    = broadcastInDim S128x1 ![0] bcast_S128_S128x1_0 (V (Proc.devRef .tc main_v207) : IVec S128 32) := by sl_kernel_rfl

theorem taken_v209 : (after (taken (.of main_v9) (.of main_v208) main_call1) V (Proc.devRef .tc main_v209) : FVec F S128x1 .f32)
    = entry (V (Proc.devRef .tc main_v9) : FVec F S128x100000 .f32) (V (Proc.devRef .tc main_v208) : IVec S128x1 32) := by sl_kernel_rfl

/-- A window leaves the probabilities alone. -/
def Keeps (l : List (HloOp τ sig (Elt F))) : Prop :=
  ∀ V : Valuation τ sig (Elt F), after l V (Proc.devRef .tc main_v9) = V (Proc.devRef .tc main_v9)

theorem keeps_flat : Keeps (F := F) flat := fun V => by sl_kernel_rfl
theorem keeps_start : Keeps (F := F) start := fun V => by sl_kernel_rfl
theorem keeps_group1 : Keeps (F := F) group1 := fun V => by sl_kernel_rfl
theorem keeps_group2 : Keeps (F := F) group2 := fun V => by sl_kernel_rfl
theorem keeps_group3 : Keeps (F := F) group3 := fun V => by sl_kernel_rfl
theorem keeps_group4 : Keeps (F := F) group4 := fun V => by sl_kernel_rfl
theorem keeps_group5 : Keeps (F := F) group5 := fun V => by sl_kernel_rfl
theorem keeps_noise : Keeps (F := F) noise := fun V => by sl_kernel_rfl
theorem keeps_largest : Keeps (F := F) (largest (.of main_v206) main_call0) := fun V => by sl_kernel_rfl
theorem keeps_column : Keeps (F := F) column := fun V => by sl_kernel_rfl
theorem taken_keeps : after (taken (.of main_v9) (.of main_v208) main_call1) V (Proc.devRef .tc main_v208) = V (Proc.devRef .tc main_v208) := by
  sl_kernel_rfl

end Cert.ReferenceIdeal.Ref

end
-- ==== Proof.RefSoft.lean ====
/-
  The reference's softmax of a finite table: an entry's exponential over the sum of its row's, whatever is taken off first.
-/
module

public import proofs.«01_k».proof.Proof.RefWords
public import proofs.«01_k».proof.Proof.KernelVal

@[expose] public section

noncomputable section

namespace Cert.ReferenceIdeal.Ref

open Cert.ReferenceIdeal Cert.ReferenceIdeal.Gen Idealize.ShloMosaic

/-- The least of finitely many numbers is a number, when there is one. -/
theorem fold_least {ι : Type} (f : ι → EReal) (hf : ∀ i, ∃ y : ℝ, f i = y) (L : List ι) :
    (∀ a : ℝ, ∃ y : ℝ, L.foldl (fun r i => min r (f i)) (a : EReal) = y) ∧ (L ≠ [] → ∃ y : ℝ, L.foldl (fun r i => min r (f i)) ⊤ = y) := by
  induction L with
  | nil => exact ⟨fun a => ⟨a, rfl⟩, fun h => absurd rfl h⟩
  | cons i L ih =>
    obtain ⟨y, hy⟩ := hf i
    refine ⟨fun a => ?_, fun _ => ?_⟩
    · obtain ⟨z, hz⟩ := ih.1 (min a y)
      refine ⟨z, ?_⟩
      rw [List.foldl_cons, hy, ← EReal.coe_strictMono.monotone.map_min]
      exact hz
    · obtain ⟨z, hz⟩ := ih.1 y
      refine ⟨z, ?_⟩
      rw [List.foldl_cons, hy, min_eq_right le_top]
      exact hz

theorem reduce_least {s t u : Shape} {axes : List (Fin s.rank)} [Subsingleton t.Idx] (x : s.Idx → EReal) (hx : ∀ i, ∃ y : ℝ, x i = y) (init : u.Idx → EReal)
    (h : s.ReducesTo axes t) (hu : 0 < u.numel) (h0 : init (Shape.Idx.first hu) = ⊤) (i : s.Idx) (j : t.Idx) :
    ∃ y : ℝ, Host.reduce (FloatOps.minimumf (F := Ideal) (φ := .f32)) x init h hu j = (y : EReal) := by
  rw [Host.reduce_eq_foldl, h0]
  refine (fold_least x hx _).2 (List.ne_nil_of_mem (a := i) (List.mem_filter.mpr ⟨List.mem_map.mpr ⟨s.rowMajor i, List.mem_finRange _, ?_⟩, ?_⟩))
  · exact Equiv.symm_apply_apply _ _
  · exact decide_eq_true (Subsingleton.elim _ _)

theorem top_eq : Ideal.ofBits .f32 0x7F800000#32 = (⊤ : EReal) := by simp [Ideal.ofBits, Ideal.ieee]

theorem fifth : Ideal.ofBits .f32 0x3E4CCCCD#32 = ((13421773 / 67108864 : ℝ) : EReal) := by
  simp only [Ideal.ofBits, Ideal.ieee]
  rw [if_neg (by decide), if_neg (by decide)]
  refine congrArg Real.toEReal ?_
  simp
  norm_num

/-- An entry over the temperature. -/
theorem over_eq (y : ℝ) : Ideal.div (y : EReal) ((13421773 / 67108864 : ℝ) : EReal) = ((y * (67108864 / 13421773) : ℝ) : EReal) := by
  unfold Ideal.div
  rw [if_neg (by rw [← EReal.coe_zero, EReal.coe_eq_coe_iff]; norm_num), ← EReal.coe_inv, ← EReal.coe_mul]
  congr 2
  norm_num

theorem div_real (a b : ℝ) (hb : b ≠ 0) : Ideal.div (a : EReal) (b : EReal) = ((a / b : ℝ) : EReal) := by
  unfold Ideal.div
  rw [if_neg (by rw [← EReal.coe_zero, EReal.coe_eq_coe_iff]; exact hb), ← EReal.coe_inv, ← EReal.coe_mul, div_eq_mul_inv]

theorem coe_sum {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

variable (q : FVec Ideal S128x100000 .f32) (y : Fin 128 → Fin 100000 → ℝ) (hy : ∀ r d, q (ix2 r d) = ((y r d : ℝ) : EReal))

/-- The exponentials after the least entry is taken off. -/
def shifted : FVec Ideal S128x100000 .f32 :=
  let x := Host.divf q (wide 0x3E4CCCCD#32)
  Host.exp (subf x (broadcastInDim S128x100000 ![] bcast_S_S128x100000
    (Host.reduce FloatOps.minimumf x (constant S_ .f32 0x7F800000#32) reducesTo_S128x100000_S_d0_1 h_S_)))

theorem soften_eq : soften q = Host.divf (shifted q) (broadcastInDim S128x100000 ![0, 1] bcast_S128x1_S128x100000_0_1 (broadcastInDim S128x1 ![0] bcast_S128_S128x1_0
    (Host.reduceAdd (shifted q) (constant S_ .f32 0x00000000#32) reducesTo_S128x100000_S128_d1 h_S_))) := rfl

include hy in
theorem shifted_apply : ∃ m : ℝ, ∀ r d, shifted q (ix2 r d) = ((Real.exp (y r d * (67108864 / 13421773) - m) : ℝ) : EReal) := by
  have hx : ∀ r d, (Host.divf q (wide 0x3E4CCCCD#32) : FVec Ideal S128x100000 .f32) (ix2 r d) = ((y r d * (67108864 / 13421773) : ℝ) : EReal) := by
    intro r d
    show Ideal.div (q (ix2 r d)) (Ideal.ofBits .f32 0x3E4CCCCD#32) = _
    rw [hy, fifth, over_eq]
  have hx' : ∀ i, ∃ z : ℝ, (Host.divf q (wide 0x3E4CCCCD#32) : FVec Ideal S128x100000 .f32) i = (z : EReal) := fun i => by
    rw [eq_ix2 i]
    exact ⟨_, hx _ _⟩
  haveI : Subsingleton S_.Idx := ⟨fun a b => funext fun k => k.elim0⟩
  obtain ⟨m, hm⟩ := reduce_least (Host.divf q (wide 0x3E4CCCCD#32)) hx' (constant (F := Ideal) S_ .f32 0x7F800000#32) reducesTo_S128x100000_S_d0_1 h_S_ top_eq
    (ix2 0 0) (Shape.Idx.first h_S_)
  refine ⟨m, fun r d => ?_⟩
  have hb : broadcastInDim S128x100000 ![] bcast_S_S128x100000 (Host.reduce (FloatOps.minimumf (F := Ideal) (φ := .f32)) (Host.divf q (wide 0x3E4CCCCD#32))
      (constant (F := Ideal) S_ .f32 0x7F800000#32) reducesTo_S128x100000_S_d0_1 h_S_) (ix2 r d) = (m : EReal) := by
    refine Eq.trans ?_ hm
    unfold broadcastInDim
    exact congrArg _ (Subsingleton.elim _ _)
  show Ideal.exp ((Host.divf q (wide 0x3E4CCCCD#32) : FVec Ideal S128x100000 .f32) (ix2 r d) - broadcastInDim S128x100000 ![] bcast_S_S128x100000
    (Host.reduce (FloatOps.minimumf (F := Ideal) (φ := .f32)) (Host.divf q (wide 0x3E4CCCCD#32)) (constant (F := Ideal) S_ .f32 0x7F800000#32) reducesTo_S128x100000_S_d0_1 h_S_) (ix2 r d)) = _
  rw [hx, hb, ← EReal.coe_sub, Ideal.exp_coe]

theorem reduceAdd_apply {s t u : Shape} {axes : List (Fin s.rank)} (x : FVec Ideal s .f32) (init : u.Idx → Ideal .f32) (h : s.ReducesTo axes t) (hu : 0 < u.numel) (j : t.Idx) :
    Host.reduceAdd x init h hu j = Ideal.hostReduceAdd h x (init (Shape.Idx.first hu)) j := rfl

theorem reduces : S128x100000.Reduces [1] S128 := by decide

theorem total (x : FVec Ideal S128x100000 .f32) (z : Fin 128 → Fin 100000 → ℝ) (hz : ∀ r d, x (ix2 r d) = ((z r d : ℝ) : EReal)) (r : Fin 128) (d : Fin 100000) :
    broadcastInDim S128x100000 ![0, 1] bcast_S128x1_S128x100000_0_1 (broadcastInDim S128x1 ![0] bcast_S128_S128x1_0
    (Host.reduceAdd x (constant (F := Ideal) S_ .f32 0x00000000#32) reducesTo_S128x100000_S128_d1 h_S_)) (ix2 r d) = ((∑ k, z r k : ℝ) : EReal) := by
  rw [broadcastInDim_apply _ _ _ (ix2 r d : S128x100000.Idx) (ix2 r 0 : S128x1.Idx) (fun a => by match a with | ⟨0, _⟩ => rfl | ⟨1, _⟩ => rfl),
    broadcastInDim_apply _ _ _ (ix2 r 0 : S128x1.Idx) (ix1 r : S128.Idx) (fun a => by match a with | ⟨0, _⟩ => rfl),
    reduceAdd_apply, Ideal.hostReduceAdd_single _ reduces]
  have h0 : constant (F := Ideal) S_ .f32 0x00000000#32 (Shape.Idx.first h_S_) = (0 : EReal) := by
    show Ideal.ofBits .f32 0x00000000#32 = 0
    simp [Ideal.ofBits, Ideal.ieee]
  rw [h0, zero_add, ← coe_sum]
  refine Finset.sum_congr rfl fun k _ => ?_
  refine Eq.trans (congrArg x (?_ : _ = (ix2 r k : S128x100000.Idx))) (hz r k)
  refine funext fun a => Fin.ext ?_
  match a with
  | ⟨0, _⟩ => rfl
  | ⟨1, _⟩ => rfl

theorem divf_at {s : Shape} (a b : FVec Ideal s .f32) (i : s.Idx) : Host.divf a b i = Ideal.div (a i) (b i) := rfl

/-- One number taken off every exponent changes no quotient. -/
theorem quotient {n : ℕ} (z : Fin n → ℝ) (m a : ℝ) : Real.exp (a - m) / ∑ k, Real.exp (z k - m) = Real.exp a / ∑ k, Real.exp (z k) := by
  simp only [Real.exp_sub]
  rw [← Finset.sum_div, div_div_div_cancel_right₀ (Real.exp_pos m).ne']

include hy in
theorem soften_apply (r : Fin 128) (d : Fin 100000) : soften q (ix2 r d)
    = ((Real.exp (y r d * (67108864 / 13421773)) / ∑ k, Real.exp (y r k * (67108864 / 13421773)) : ℝ) : EReal) := by
  obtain ⟨m, hm⟩ := shifted_apply q y hy
  have hpos : 0 < ∑ k, Real.exp (y r k * (67108864 / 13421773) - m) := Finset.sum_pos (fun k _ => Real.exp_pos _) ⟨d, Finset.mem_univ _⟩
  have ht := total (shifted q) _ hm r d
  have hd := div_real (Real.exp (y r d * (67108864 / 13421773) - m)) _ hpos.ne'
  rw [quotient (fun k => y r k * (67108864 / 13421773)) m] at hd
  rw [← hm r d, ← ht] at hd
  exact (congrFun (soften_eq q) _).trans ((divf_at _ _ _).trans hd)

end Cert.ReferenceIdeal.Ref

end
-- ==== Proof.RefTake.lean ====
/-
  The reference's reading of a table at a column per row.
-/
module

public import proofs.«01_k».proof.Proof.RefWords
public import proofs.«01_k».proof.Proof.Finish
public import Idealize.ShloMosaic.Lib.ReduceAll
public import Idealize.ShloMosaic.Lib.Pointwise

@[expose] public section

noncomputable section

namespace Cert.ReferenceIdeal.Ref

open Cert.ReferenceIdeal Cert.ReferenceIdeal.Gen Idealize.ShloMosaic

theorem wrap_apply (i : IVec S128x1 32) (k : S128x1x1.Idx) (s : Fin 128) (hs : k 0 = s) (b : BitVec 32) (hb : i (ix2 s 0 : S128x1.Idx) = b) (h0 : 0 ≤ b.toInt) : wrap i k = b := by
  have hk : Shape.reshapeEquiv shapeCasts_S128x1_S128x1x1 k = (ix2 s 0 : S128x1.Idx) := by
    subst hs
    refine Shape.reshapeEquiv_eq_of_rowMajor _ ?_
    rw [Shape.rowMajor_val_two, Shape.rowMajor_val_three]
    have h1 : (k 1).val < 1 := (k 1).isLt
    have h2 : (k 2).val < 1 := (k 2).isLt
    show (k 0).val * 1 + 0 = ((k 0).val * 1 + (k 1).val) * 1 + (k 2).val
    omega
  unfold wrap shapeCast
  rw [hk]
  show Scalar.select (IntOp.cmpi .slt (i (ix2 s 0 : S128x1.Idx)) 0#32) _ (i (ix2 s 0 : S128x1.Idx)) = b
  rw [hb]
  unfold Scalar.select
  have h1 : ¬ b.toInt < (0#32).toInt := not_lt.mpr h0
  exact if_neg fun e => h1 (IntOp.cmpi_slt.1 e)

theorem inside_apply (i : IVec S128x1x1 32) (h : ∀ k, 0 ≤ (i k).toInt ∧ (i k).toInt ≤ 99999) (j : S128x1.Idx) : inside i j = 1#1 := by
  unfold inside
  refine Host.reduce_andi_one _ _ _ _ j rfl fun k => ?_
  show IntOp.andi (IntOp.cmpi .sge (i k) 0#32) (IntOp.cmpi .sle (i k) 99999#32) = 1#1
  have h1 : IntOp.cmpi .sge (i k) 0#32 = 1#1 := IntOp.cmpi_sge.2 (h k).1
  have h2 : IntOp.cmpi .sle (i k) 99999#32 = 1#1 := IntOp.cmpi_sle.2 (h k).2
  rw [h1, h2]
  rfl

theorem gather_apply {α : Type} (x : S128x100000.Idx → α) (idx : IVec S128x1x1 32) (r : Fin 128) (p : Fin 100000)
    (h : ∀ k : S128x1x1.Idx, k 0 = r → (idx k).toInt = p.val) :
    Host.gather gather_S128x100000_S128x1x1_S128x1_n_1_0_0_1_2_11 x idx (ix2 r 0 : S128x1.Idx) = x (ix2 r p) := by
  unfold Host.gather
  refine congrArg x (funext fun a => Fin.ext ?_)
  match a with
  | ⟨0, _⟩ =>
    show 0 + r.val + 0 = r.val
    omega
  | ⟨1, _⟩ =>
    have h1 := h (gather_S128x100000_S128x1x1_S128x1_n_1_0_0_1_2_11.siIdx (ix2 r 0 : S128x1.Idx) ⟨0, by decide⟩) rfl
    have hp := p.isLt
    show min (idx (gather_S128x100000_S128x1x1_S128x1_n_1_0_0_1_2_11.siIdx (ix2 r 0 : S128x1.Idx) ⟨0, _⟩)).toInt.toNat (100000 - 1) + 0 + 0 = p.val
    rw [h1]
    omega

theorem entry_apply (x : FVec Ideal S128x100000 .f32) (i : IVec S128x1 32) (p : Fin 128 → ℕ) (hp : ∀ r, p r < 100000)
    (hi : ∀ r, i (ix2 r 0 : S128x1.Idx) = BitVec.ofNat 32 (p r)) (r : Fin 128) : entry x i (ix2 r 0 : S128x1.Idx) = x (ix2 r ⟨p r, hp r⟩) := by
  have hz : ∀ s, (BitVec.ofNat 32 (p s)).toInt = p s := fun s => Cert.KernelIdeal.Sweep.toInt_col (by have := hp s; omega)
  have hw : ∀ (k : S128x1x1.Idx) (s : Fin 128), k 0 = s → (wrap i k).toInt = p s := fun k s hs => by
    rw [wrap_apply i k s hs _ (hi s) (by rw [hz]; omega), hz]
  have h1 : inside (wrap i) (ix2 r 0 : S128x1.Idx) = 1#1 := inside_apply _ (fun k => by
    obtain ⟨s, hs⟩ : ∃ s : Fin 128, k 0 = s := ⟨k 0, rfl⟩
    rw [hw k s hs]; have := hp s; omega) _
  have h2 := gather_apply x (wrap i) r ⟨p r, hp r⟩ fun k hk => hw k r hk
  unfold entry
  show Scalar.select (inside (wrap i) (ix2 r 0 : S128x1.Idx)) (Host.gather gather_S128x100000_S128x1x1_S128x1_n_1_0_0_1_2_11 x (wrap i) (ix2 r 0 : S128x1.Idx)) _ = _
  rw [h1, h2]
  rfl

end Cert.ReferenceIdeal.Ref

end
-- ==== Proof.RefBest.lean ====
/-
  The reference's arg-max at a row: the first of the columns with the greatest entry.
-/
module

public import proofs.«01_k».proof.Proof.RefWords
public import proofs.«01_k».proof.Proof.Finish
public import Idealize.ShloMosaic.Lib.Pointwise

@[expose] public section

noncomputable section

namespace Cert.ReferenceIdeal.Ref

open Cert.ReferenceIdeal Cert.ReferenceIdeal.Gen Cert.Scan Idealize.ShloMosaic

/-- The better of two entries: the greater, of two equal ones the one with the lower number. -/
theorem reducer_eq (a b : EReal × BitVec 32) :
    (reducer_argmax_f32_i32 (F := Ideal) a b : EReal × BitVec 32) = if b.1 < a.1 ∨ (a.1 = b.1 ∧ a.2.toInt < b.2.toInt) then a else b := by
  obtain ⟨x, i⟩ := a
  obtain ⟨y, j⟩ := b
  unfold reducer_argmax_f32_i32
  simp only [Ideal.cmpf_def, Ideal.cmp, IntOp.ori, IntOp.andi, IntOp.cmpi, Scalar.select, BitVec.slt]
  by_cases h1 : y < x
  · have h2 : ∀ b : Bool, (1#1 ||| BitVec.ofBool b) = 1#1 := by decide
    simp [h1, h2]
  · by_cases h2 : x = y
    · subst h2
      by_cases h3 : i.toInt < j.toInt <;> simp [h3]
    · simp [h1, h2]

theorem reducer_mem (a b : EReal × BitVec 32) :
    let c : EReal × BitVec 32 := reducer_argmax_f32_i32 (F := Ideal) a b
    (c = a ∨ c = b) ∧ (a.1 ≤ c.1 ∧ (a.1 = c.1 → c.2.toInt ≤ a.2.toInt)) ∧ (b.1 ≤ c.1 ∧ (b.1 = c.1 → c.2.toInt ≤ b.2.toInt)) := by
  simp only [reducer_eq]
  split
  next h =>
    refine ⟨Or.inl rfl, ⟨le_refl _, fun _ => le_refl _⟩, ?_⟩
    rcases h with h | h
    · exact ⟨h.le, fun e => absurd e h.ne⟩
    · exact ⟨h.1.ge, fun _ => h.2.le⟩
  next h =>
    rw [not_or] at h
    refine ⟨Or.inr rfl, ⟨not_lt.mp h.1, fun e => ?_⟩, le_refl _, fun _ => le_refl _⟩
    exact not_lt.mp fun h3 => h.2 ⟨e, h3⟩

/-- What the fold ends with is one of the pairs, and no pair is better. -/
theorem fold_best (L : List (EReal × BitVec 32)) (p : EReal × BitVec 32) :
    let r : EReal × BitVec 32 := L.foldl (reducer_argmax_f32_i32 (F := Ideal)) p
    (r = p ∨ r ∈ L) ∧ ∀ x, x = p ∨ x ∈ L → x.1 ≤ r.1 ∧ (x.1 = r.1 → r.2.toInt ≤ x.2.toInt) := by
  induction L generalizing p with
  | nil =>
    refine ⟨Or.inl rfl, fun x hx => ?_⟩
    rcases hx with rfl | hx
    · exact ⟨le_refl _, fun _ => le_refl _⟩
    · cases hx
  | cons a L ih =>
    obtain ⟨hm, hp, ha⟩ := reducer_mem p a
    obtain ⟨h1, h2⟩ := ih (reducer_argmax_f32_i32 (F := Ideal) p a)
    obtain ⟨h3, h4⟩ := h2 _ (Or.inl rfl)
    refine ⟨?_, fun x hx => ?_⟩
    · rcases h1 with h1 | h1
      · rcases hm with hm | hm
        · exact Or.inl (h1.trans hm)
        · exact Or.inr (List.mem_cons.mpr (Or.inl (h1.trans hm)))
      · exact Or.inr (List.mem_cons_of_mem _ h1)
    · have key : ∀ y : EReal × BitVec 32, (y.1 ≤ (reducer_argmax_f32_i32 (F := Ideal) p a : EReal × BitVec 32).1
          ∧ (y.1 = (reducer_argmax_f32_i32 (F := Ideal) p a : EReal × BitVec 32).1 → (reducer_argmax_f32_i32 (F := Ideal) p a : EReal × BitVec 32).2.toInt ≤ y.2.toInt)) →
          y.1 ≤ (L.foldl (reducer_argmax_f32_i32 (F := Ideal)) (reducer_argmax_f32_i32 (F := Ideal) p a) : EReal × BitVec 32).1
          ∧ (y.1 = (L.foldl (reducer_argmax_f32_i32 (F := Ideal)) (reducer_argmax_f32_i32 (F := Ideal) p a) : EReal × BitVec 32).1 →
            (L.foldl (reducer_argmax_f32_i32 (F := Ideal)) (reducer_argmax_f32_i32 (F := Ideal) p a) : EReal × BitVec 32).2.toInt ≤ y.2.toInt) := by
        intro y hy
        refine ⟨hy.1.trans h3, fun e => ?_⟩
        have e1 := le_antisymm hy.1 (e ▸ h3)
        exact (h4 (e1 ▸ e)).trans (hy.2 e1)
      rcases hx with rfl | hx
      · exact key _ hp
      · rcases List.mem_cons.mp hx with rfl | hx
        · exact key _ ha
        · exact h2 x (Or.inr hx)

/-- A row of a table by column; past the last column nothing. -/
def row (x : FVec Ideal S128x100000 .f32) (r : Fin 128) (d : ℕ) : EReal := if h : d < 100000 then x (ix2 r ⟨d, h⟩) else ⊥

theorem drop_eq (i : S128x100000.Idx) (r : Fin 128) (h : reducesTo_S128x100000_S128_d1.drop i = (ix1 r : S128.Idx)) : ∃ d : Fin 100000, i = ix2 r d := by
  have h' : i 0 = r := congrFun h 0
  refine ⟨i 1, funext fun a => ?_⟩
  match a with
  | ⟨0, _⟩ => exact h'
  | ⟨1, _⟩ => rfl

theorem drop_ix2 (r : Fin 128) (d : Fin 100000) : reducesTo_S128x100000_S128_d1.drop (ix2 r d : S128x100000.Idx) = (ix1 r : S128.Idx) := by
  funext b
  match b with
  | ⟨0, _⟩ => rfl

theorem fiber_mem {s t : Shape} {α β : Type} {axes : List (Fin s.rank)} (x : s.Idx → α) (y : s.Idx → β) (h : s.ReducesTo axes t) (i : s.Idx) :
    (x i, y i) ∈ Host.argReduceFiber x y h (h.drop i) := by
  unfold Host.argReduceFiber
  refine List.mem_map.mpr ⟨s.rowMajor i, List.mem_filter.mpr ⟨List.mem_finRange _, ?_⟩, ?_⟩
  · rw [Equiv.symm_apply_apply]
    exact decide_eq_true rfl
  · rw [Equiv.symm_apply_apply]

theorem mem_fiber {s t : Shape} {α β : Type} {axes : List (Fin s.rank)} (x : s.Idx → α) (y : s.Idx → β) (h : s.ReducesTo axes t) (j : t.Idx)
    (q : α × β) (hq : q ∈ Host.argReduceFiber x y h j) : ∃ i, h.drop i = j ∧ q = (x i, y i) := by
  unfold Host.argReduceFiber at hq
  obtain ⟨n, hn, e⟩ := List.mem_map.mp hq
  exact ⟨_, of_decide_eq_true (List.mem_filter.mp hn).2, e.symm⟩

/-- What holds of the fold over any list of exactly the pairs at `j` holds of the reduction. -/
theorem arg_of {s t u : Shape} {φ : FTy} {β : Type} {axes : List (Fin s.rank)} (f : Ideal φ × β → Ideal φ × β → Ideal φ × β) (x : FVec Ideal s φ) (y : s.Idx → β)
    (ix : u.Idx → Ideal φ) (iy : u.Idx → β) (h : s.ReducesTo axes t) (hu : 0 < u.numel) (j : t.Idx) (P : Ideal φ × β → Prop)
    (H : ∀ L : List (Ideal φ × β), (∀ i, h.drop i = j → (x i, y i) ∈ L) → (∀ q ∈ L, ∃ i, h.drop i = j ∧ q = (x i, y i)) →
      P (L.foldl f (ix (Shape.Idx.first hu), iy (Shape.Idx.first hu)))) :
    P (Host.argReduce f x y ix iy h hu j) := by
  rw [Ideal.argReduce_eq_reduce2, Host.reduce2_eq_foldl_fiber]
  refine H _ (fun i hi => ?_) fun q hq => mem_fiber x y h j q hq
  subst hi
  exact fiber_mem x y h i

theorem lead_of (x : FVec Ideal S128x100000 .f32) (hx : ∀ i, (⊥ : EReal) < x i) (r : Fin 128) (L : List (EReal × BitVec 32))
    (hmem : ∀ d : Fin 100000, ((x (ix2 r d), BitVec.ofNat 32 d.val) : EReal × BitVec 32) ∈ L)
    (hall : ∀ q ∈ L, ∃ d : Fin 100000, q = (x (ix2 r d), BitVec.ofNat 32 d.val)) (z : EReal × BitVec 32) (hz : z.1 = ⊥) :
    ∃ p, Lead (fun d => d < 100000) (row x r) p ∧ (L.foldl (reducer_argmax_f32_i32 (F := Ideal)) z : EReal × BitVec 32).2 = BitVec.ofNat 32 p := by
  obtain ⟨h1, h2⟩ := fold_best L z
  generalize (L.foldl (reducer_argmax_f32_i32 (F := Ideal)) z : EReal × BitVec 32) = R at h1 h2
  have hR' : ∃ d : Fin 100000, R = (x (ix2 r d), BitVec.ofNat 32 d.val) := by
    rcases h1 with h1 | h1
    · exfalso
      have h3 := (h2 _ (Or.inr (hmem ⟨0, by omega⟩))).1
      rw [h1, hz] at h3
      exact absurd ((hx _).trans_le h3) (lt_irrefl _)
    · exact hall R h1
  obtain ⟨d, rfl⟩ := hR'
  refine ⟨d.val, ⟨d.isLt, fun e he => ?_⟩, rfl⟩
  have h6 := h2 _ (Or.inr (hmem ⟨e, he⟩))
  unfold row
  rw [dif_pos he, dif_pos d.isLt]
  refine ⟨h6.1, fun h7 => ?_⟩
  have h8 := h6.2 h7
  have hd := d.isLt
  simp only at h8
  rw [Cert.KernelIdeal.Sweep.toInt_col (by omega), Cert.KernelIdeal.Sweep.toInt_col (by omega)] at h8
  omega

theorem bottom : constant (F := Ideal) S_ .f32 0xFF800000#32 (Shape.Idx.first h_S_) = (⊥ : EReal) := by
  show Ideal.ofBits .f32 0xFF800000#32 = ⊥
  simp [Ideal.ofBits, Ideal.ieee]

theorem pair_eq (x : FVec Ideal S128x100000 .f32) (i : S128x100000.Idx) (r : Fin 128) (d : Fin 100000) (q : Ideal .f32 × BitVec 32) (hd : i = ix2 r d) (e : q = (x i, iotaInDim S128x100000 32 1 i)) : q = (x (ix2 r d), BitVec.ofNat 32 d.val) := by
  rw [e]
  exact Prod.ext (congrArg x hd) (by rw [hd]; rfl)
theorem pairs_eq (x : FVec Ideal S128x100000 .f32) (L : List (Ideal .f32 × BitVec 32)) (r : Fin 128)  (h2 : ∀ q ∈ L, ∃ i, reducesTo_S128x100000_S128_d1.drop i = (ix1 r : S128.Idx) ∧ q = (x i, iotaInDim S128x100000 32 1 i)) (q : Ideal .f32 × BitVec 32) (hq : q ∈ L) : ∃ d : Fin 100000, q = (x (ix2 r d), BitVec.ofNat 32 d.val) := by
  obtain ⟨i, h5, e⟩ := h2 q hq
  obtain ⟨d, hd⟩ := drop_eq i r h5
  exact ⟨d, pair_eq x i r d q hd e⟩

theorem pair_mem (x : FVec Ideal S128x100000 .f32) (L : List (Ideal .f32 × BitVec 32)) (r : Fin 128)
    (h1 : ∀ i, reducesTo_S128x100000_S128_d1.drop i = (ix1 r : S128.Idx) → (x i, iotaInDim S128x100000 32 1 i) ∈ L) (d : Fin 100000) :
    (x (ix2 r d), BitVec.ofNat 32 d.val) ∈ L := by
  have h := h1 (ix2 r d) (drop_ix2 r d)
  rw [← pair_eq x _ r d _ rfl rfl]
  exact h

theorem lead_fold (x : FVec Ideal S128x100000 .f32) (hx : ∀ i, (⊥ : EReal) < x i) (r : Fin 128) (L : List (Ideal .f32 × BitVec 32))
    (h1 : ∀ i, reducesTo_S128x100000_S128_d1.drop i = (ix1 r : S128.Idx) → (x i, iotaInDim S128x100000 32 1 i) ∈ L)
    (h2 : ∀ q ∈ L, ∃ i, reducesTo_S128x100000_S128_d1.drop i = (ix1 r : S128.Idx) ∧ q = (x i, iotaInDim S128x100000 32 1 i))
    (z : Ideal .f32 × BitVec 32) (hz : z.1 = (⊥ : EReal)) :
    ∃ p, Lead (fun d => d < 100000) (row x r) p ∧ (L.foldl (reducer_argmax_f32_i32 (F := Ideal)) z : Ideal .f32 × BitVec 32).2 = BitVec.ofNat 32 p :=
  lead_of x hx r L (pair_mem x L r h1) (pairs_eq x L r h2) z hz

/-- A pair is good for a row when its number is the row's leading column. -/
def Good (x : FVec Ideal S128x100000 .f32) (r : Fin 128) (q : Ideal .f32 × BitVec 32) : Prop :=
  ∃ p, Lead (fun d => d < 100000) (row x r) p ∧ q.2 = BitVec.ofNat 32 p

theorem good_arg (x : FVec Ideal S128x100000 .f32) (hx : ∀ i, (⊥ : EReal) < x i) (r : Fin 128) :
    Good x r (Host.argReduce (reducer_argmax_f32_i32 (F := Ideal)) x (iotaInDim S128x100000 32 1) (constant (F := Ideal) S_ .f32 0xFF800000#32)
      (constantI S_ 32 0#32) reducesTo_S128x100000_S128_d1 h_S_ (ix1 r : S128.Idx)) :=
  arg_of (reducer_argmax_f32_i32 (F := Ideal)) x (iotaInDim S128x100000 32 1) (constant (F := Ideal) S_ .f32 0xFF800000#32)
    (constantI S_ 32 0#32) reducesTo_S128x100000_S128_d1 h_S_ (ix1 r : S128.Idx) (Good x r) fun L h1 h2 => lead_fold x hx r L h1 h2 _ bottom

theorem good_at (A : S128.Idx → Ideal .f32 × BitVec 32) (b : IVec S128 32) (h : b = fun j => (A j).2) (j : S128.Idx)
    (x : FVec Ideal S128x100000 .f32) (r : Fin 128) (hg : Good x r (A j)) :
    ∃ p, Lead (fun d => d < 100000) (row x r) p ∧ b j = BitVec.ofNat 32 p := by
  subst h
  exact hg

theorem best_fun (x : FVec Ideal S128x100000 .f32) : best (F := Ideal) x = fun j =>
    (Host.argReduce (reducer_argmax_f32_i32 (F := Ideal)) x (iotaInDim S128x100000 32 1) (constant (F := Ideal) S_ .f32 0xFF800000#32)
      (constantI S_ 32 0#32) reducesTo_S128x100000_S128_d1 h_S_ j).2 := by
  delta best
  with_reducible rfl

theorem best_lead (x : FVec Ideal S128x100000 .f32) (hx : ∀ i, (⊥ : EReal) < x i) (r : Fin 128) :
    ∃ p, Lead (fun d => d < 100000) (row x r) p ∧ best x (ix1 r : S128.Idx) = BitVec.ofNat 32 p :=
  good_at _ _ (best_fun x) _ x r (good_arg x hx r)

end Cert.ReferenceIdeal.Ref

end
-- ==== Proof.RefRead.lean ====
/-
  The reference's two results as functions of its argument.
-/
module

public import proofs.«01_k».proof.Proof.RefWords

@[expose] public section

set_option maxRecDepth 65536

noncomputable section

namespace Cert.ReferenceIdeal.Ref

open Cert.ReferenceIdeal Cert.ReferenceIdeal.Gen Cert.Words
open Idealize.ShloMosaic Idealize.ShloMosaic.TcCoe Idealize.ShloMosaic.Tactic Idealize.ShloMosaic.StableHlo
open Idealize.SL Idealize.SL.Sem

variable {F : FTy → Type} [FloatOps F] (V : Valuation τ sig (Elt F))

theorem after_append (l k : List (HloOp τ sig (Elt F))) : after (l ++ k) V = after k (after l V) := by
  induction l generalizing V with
  | nil => rfl
  | cons a l ih => exact ih _

/-- The generator's windows in a row. -/
def generate : List (HloOp τ sig (Elt F)) := flat ++ (start ++ (group1 ++ (group2 ++ (group3 ++ (group4 ++ group5)))))

/-- The five groups of rounds over the counters, the halves not yet combined. -/
def rounds (n : IVec S128x100000 32) : Two S128x100000 :=
  key spread 466689008#32 0#32 5#32 (odd (mix spread) (sum (key spread 42#32 466689008#32 4#32 (even (mix spread)
    (sum (key spread 0#32 42#32 3#32 (odd (mix spread) (sum (key spread 466689008#32 0#32 2#32 (even (mix spread)
      (sum (key spread 42#32 466689008#32 1#32 (odd (mix spread) (sum (addi (spread 0#32) (spread 0#32), addi n (spread 42#32))))))))))))))))

theorem words_eq : words = xori (rounds count).1 (rounds count).2 := by
  unfold words rounds word
  rfl

theorem generate_pair : ((after generate V (Proc.devRef .tc main_v182) : IVec S128x100000 32), (after generate V (Proc.devRef .tc main_v186) : IVec S128x100000 32))
    = rounds count := by
  unfold generate rounds
  rw [after_append, after_append, after_append, after_append, after_append, after_append]
  have h2 := flat_v11 V
  have h3 := start_pair (after flat V)
  rw [h2] at h3
  have h4 := group1_pair (after start (after flat V))
  rw [h3] at h4
  have h5 := group2_pair (after group1 (after start (after flat V)))
  rw [h4] at h5
  have h6 := group3_pair (after group2 (after group1 (after start (after flat V))))
  rw [h5] at h6
  have h7 := group4_pair (after group3 (after group2 (after group1 (after start (after flat V)))))
  rw [h6] at h7
  have h8 := group5_pair (after group4 (after group3 (after group2 (after group1 (after start (after flat V))))))
  rw [h7] at h8
  exact h8

theorem generate_words : xori (after generate V (Proc.devRef .tc main_v182) : IVec S128x100000 32) (after generate V (Proc.devRef .tc main_v186) : IVec S128x100000 32)
    = words := by
  rw [words_eq, ← generate_pair V]

theorem generate_keeps : Keeps (F := F) generate := fun V => by
  simp only [generate, after_append]
  rw [keeps_group5, keeps_group4, keeps_group3, keeps_group2, keeps_group1, keeps_start, keeps_flat]

theorem ops_eq : (ops : List (HloOp τ sig (Elt F))) = soft ++ (generate ++ (noise
    ++ (largest (.of main_v206) main_call0 ++ (column ++ taken (.of main_v9) (.of main_v208) main_call1)))) := by
  simp only [ops, generate, List.append_assoc]

theorem results : (after ops V (Proc.devRef .tc main_v208) : IVec S128x1 32)
      = bestCol (score (V (Proc.devRef .tc main_arg0) : FVec F S128x100000 .f32) words)
    ∧ (after ops V (Proc.devRef .tc main_v209) : FVec F S128x1 .f32)
      = entry (soften (V (Proc.devRef .tc main_arg0) : FVec F S128x100000 .f32))
          (bestCol (score (V (Proc.devRef .tc main_arg0) : FVec F S128x100000 .f32) words)) := by
  rw [ops_eq]
  simp only [after_append]
  have e3 := noise_v206 (after generate (after soft V))
  rw [generate_words, generate_keeps, soft_v9] at e3
  have k3 := keeps_noise (after generate (after soft V))
  rw [generate_keeps] at k3
  have e5 : (after column (after (largest (.of main_v206) main_call0) (after noise (after generate (after soft V)))) (Proc.devRef .tc main_v208) : IVec S128x1 32)
      = bestCol (score (V (Proc.devRef .tc main_arg0) : FVec F S128x100000 .f32) words) := by
    rw [column_v208, largest_v207, e3]; rfl
  refine ⟨(taken_keeps _).trans e5, (taken_v209 _).trans ?_⟩
  rw [e5, keeps_column, keeps_largest, k3, soft_v9]

end Cert.ReferenceIdeal.Ref

end
-- ==== Proof.Agree.lean ====
/-
  The kernel's results are the reference's: both noise tables are one, the reference's scores are the kernel's less one
  number per row, and the two quotients are one.
-/
module

public import proofs.«01_k».proof.Pre_finite
public import proofs.«01_k».proof.Proof.Noise
public import proofs.«01_k».proof.Proof.RefSoft
public import proofs.«01_k».proof.Proof.RefTake
public import proofs.«01_k».proof.Proof.RefBest
public import proofs.«01_k».proof.Proof.RefRead
public import Idealize.ShloMosaic.Lib.ReduceAll

@[expose] public section

noncomputable section

namespace Cert.Agree

open Idealize.ShloMosaic Idealize.ShloMosaic.TcCoe Idealize.SL.Sem
open Cert.Scan Cert.Words Cert.KernelIdeal Cert.KernelIdeal.Gen Cert.KernelIdeal.Sweep

/-- The precondition's shape facts. -/
theorem finiteFacts : Cert.Pre_finite.Facts where
  bcast_S_S128x100000 := by decide
  reducesTo_S128x100000_S_d0_1 := by decide
  h_S_ := by decide

/-- Under the precondition every entry is a number. -/
theorem finite (x : FVec Ideal S128x100000 .f32) (h : @Cert.Pre_finite.fn finiteFacts Ideal _ x = fun _ => 1#1) (i : S128x100000.Idx) :
    ∃ y : ℝ, x i = (y : EReal) := by
  haveI := finiteFacts
  haveI : Subsingleton Cert.Pre_finite.S_.Idx := ⟨fun a b => funext fun k => k.elim0⟩
  have h1 := congrFun h (Shape.Idx.first finiteFacts.h_S_)
  unfold Cert.Pre_finite.fn at h1
  have h2 := Host.reduce_andi_all _ _ _ _ _ h1 i
  have h3 : Ideal.cmp .olt (max (x i) (-(x i))) (Ideal.ofBits .f32 0x7F800000#32) = 1#1 := h2
  rw [Cert.ReferenceIdeal.Ref.top_eq] at h3
  generalize x i = e at h3
  induction e using EReal.rec with
  | bot => simp [Ideal.cmp] at h3
  | top => simp [Ideal.cmp] at h3
  | coe y => exact ⟨y, rfl⟩

/-! ## The noise -/

theorem flat_at (j : S12800000.Idx) : (Cert.KernelIdeal.Host.gumbel (short Cert.KernelIdeal.Host.spread Cert.KernelIdeal.Host.count) : FVec Ideal S12800000 .f32) j
    = Cert.KernelIdeal.Host.noise (one (Cert.KernelIdeal.Host.count j)) := by
  rw [Cert.KernelIdeal.Host.gumbel_apply, short_eq Cert.KernelIdeal.Host.spread_spreads, word_apply Cert.KernelIdeal.Host.spread_spreads]

variable (m : (ℓ : Loc nD τ sig) → Buf (Elt Ideal) ℓ) (c : Dev nD)

theorem G_eq (r : Fin 128) (d : Fin 100000) : G m c r d
    = (Cert.KernelIdeal.Host.noise (one (Cert.KernelIdeal.Host.count (Shape.reshapeEquiv shapeCasts_S12800000_S128x100000 (ix2 r d : S128x100000.Idx)))) : Ideal .f32) :=
  (congrFun (Cert.KernelIdeal.Host.table (F := Ideal) (fun b => m (c, b))) (ix2 r d)).trans (flat_at _)

theorem ref_at (w : IVec Cert.ReferenceIdeal.S128x100000 32) (i : S128x100000.Idx) :
    (Cert.ReferenceIdeal.Ref.gumbel w : FVec Ideal Cert.ReferenceIdeal.S128x100000 .f32) i = Cert.KernelIdeal.Host.noise (w i) := rfl

theorem words_at (i : S128x100000.Idx) : Cert.ReferenceIdeal.Ref.words i = one (Cert.ReferenceIdeal.Ref.count i) :=
  word_apply (fun _ _ => rfl) _ i

theorem gumbel_eq (r : Fin 128) (d : Fin 100000) :
    (Cert.ReferenceIdeal.Ref.gumbel Cert.ReferenceIdeal.Ref.words : FVec Ideal Cert.ReferenceIdeal.S128x100000 .f32) (ix2 r d) = G m c r d := by
  rw [ref_at, words_at, G_eq]
  rfl

theorem G_real (r : Fin 128) (d : Fin 100000) : ∃ g : ℝ, G m c r d = (g : EReal) := by
  rw [G_eq]
  exact Cert.KernelIdeal.Host.noise_real _

/-! ## The scores -/

/-- One number taken off every score changes no leader. -/
theorem lead_shift {S : ℕ → Prop} {Z Y : ℕ → EReal} {p : ℕ} (h : Lead S Z p) (z : ℕ → ℝ) (s : ℝ) (hZ : ∀ d, S d → Z d = ((z d : ℝ) : EReal))
    (hY : ∀ d, S d → Y d = ((z d - s : ℝ) : EReal)) : Lead S Y p := by
  refine ⟨h.1, fun d hd => ?_⟩
  obtain ⟨h1, h2⟩ := h.2 d hd
  rw [hZ d hd, hZ p h.1] at h1 h2
  rw [hY d hd, hY p h.1]
  rw [EReal.coe_le_coe_iff] at h1 ⊢
  rw [EReal.coe_eq_coe_iff] at h2 ⊢
  exact ⟨sub_le_sub_right h1 s, fun e => h2 (sub_left_injective e)⟩

theorem plus_log {s : Shape} (a b : FVec Ideal s .f32) (i : s.Idx) : addf a (Host.log b) i = a i + Ideal.log (b i) := rfl

theorem score_eq (q : FVec Ideal S128x100000 .f32) (w : IVec Cert.ReferenceIdeal.S128x100000 32) : Cert.ReferenceIdeal.Ref.score q w
    = addf (Cert.ReferenceIdeal.Ref.gumbel w) (Host.log (Cert.ReferenceIdeal.Ref.soften q)) := rfl

section Row

variable (q : FVec Ideal S128x100000 .f32) (y : Fin 128 → Fin 100000 → ℝ) (hy : ∀ r d, q (ix2 r d) = ((y r d : ℝ) : EReal))

include hy in
theorem score_at (w : IVec Cert.ReferenceIdeal.S128x100000 32) (g : Fin 128 → Fin 100000 → ℝ)
    (hg : ∀ r d, (Cert.ReferenceIdeal.Ref.gumbel w : FVec Ideal Cert.ReferenceIdeal.S128x100000 .f32) (ix2 r d) = ((g r d : ℝ) : EReal)) (r : Fin 128) (d : Fin 100000) :
    (Cert.ReferenceIdeal.Ref.score q w : FVec Ideal Cert.ReferenceIdeal.S128x100000 .f32) (ix2 r d)
      = ((g r d + y r d * (67108864 / 13421773) - Real.log (∑ k, Real.exp (y r k * (67108864 / 13421773))) : ℝ) : EReal) := by
  have hpos : 0 < ∑ k, Real.exp (y r k * (67108864 / 13421773)) := Finset.sum_pos (fun k _ => Real.exp_pos _) ⟨d, Finset.mem_univ _⟩
  have h1 := Cert.ReferenceIdeal.Ref.soften_apply q y hy r d
  have h2 := Cert.KernelIdeal.Host.log_real (div_pos (Real.exp_pos (y r d * (67108864 / 13421773))) hpos)
  rw [← h1, Real.log_div (Real.exp_pos _).ne' hpos.ne', Real.log_exp] at h2
  have h3 : (Cert.ReferenceIdeal.Ref.score q w : FVec Ideal Cert.ReferenceIdeal.S128x100000 .f32) (ix2 r d)
    = (Cert.ReferenceIdeal.Ref.gumbel w : FVec Ideal Cert.ReferenceIdeal.S128x100000 .f32) (ix2 r d)
      + Ideal.log ((Cert.ReferenceIdeal.Ref.soften q : FVec Ideal Cert.ReferenceIdeal.S128x100000 .f32) (ix2 r d)) :=
    (congrFun (score_eq q w) _).trans (plus_log _ _ _)
  rw [h3, h2, hg, ← EReal.coe_add, add_sub_assoc]

end Row

theorem over_real (y : ℝ) : over (y : EReal) = ((y * (67108864 / 13421773) : ℝ) : EReal) := by
  unfold over
  rw [← EReal.coe_mul]

/-- A row of a table read by number, nothing past its end. -/
def upTo (f : Fin 100000 → ℝ) (d : ℕ) : ℝ := if h : d < 100000 then f ⟨d, h⟩ else 0

/-- The kernel's and the reference's results at a row, from the argument. -/
theorem row_eq (q : FVec Ideal S128x100000 .f32) (hq : m ((c.tc : Thread nD τ).loc main_arg0) = q) (hf : ∀ i, ∃ y : ℝ, q i = (y : EReal)) :
    ∃ p : Fin 128 → ℕ, ∃ hp : ∀ r, p r < 100000, ∀ r,
      outCol (accAt m c 8) (ix2 r 0) = BitVec.ofNat 32 (p r)
      ∧ Cert.ReferenceIdeal.Ref.best (Cert.ReferenceIdeal.Ref.score q Cert.ReferenceIdeal.Ref.words) (ix1 r : Cert.ReferenceIdeal.S128.Idx) = BitVec.ofNat 32 (p r)
      ∧ outVal (accAt m c 8) (ix2 r 0) = Cert.ReferenceIdeal.Ref.soften q (ix2 r ⟨p r, hp r⟩) := by
  choose y hy using fun (r : Fin 128) (d : Fin 100000) => hf (ix2 r d)
  choose g hg using fun (r : Fin 128) (d : Fin 100000) => G_real m c r d
  have hQ : ∀ r d, Q m c r d = ((y r d : ℝ) : EReal) := fun r d => by
    unfold Q
    rw [hq]
    exact hy r d
  have hZ : ∀ r d, d < 100000 → Z (Q m c) (G m c) r d = ((upTo (fun k => g r k + y r k * (67108864 / 13421773)) d : ℝ) : EReal) := fun r d hd => by
    unfold Z upTo
    rw [dif_pos hd, dif_pos hd, hQ, hg, over_real, ← EReal.coe_add]
  have hE : ∀ r d (hd : d < 100000), E (Q m c) r d = ((Real.exp (y r ⟨d, hd⟩ * (67108864 / 13421773)) : ℝ) : EReal) := fun r d hd => by
    unfold E
    rw [dif_pos hd, hQ, over_real, Ideal.exp_coe]
  have hS : ∀ r, (∑ d ∈ Finset.range 100000, E (Q m c) r d) = ((∑ k, Real.exp (y r k * (67108864 / 13421773)) : ℝ) : EReal) := fun r => by
    rw [Finset.sum_range, ← Cert.ReferenceIdeal.Ref.coe_sum]
    exact Finset.sum_congr rfl fun k _ => hE r k.val k.isLt
  have hs := score_at q y hy Cert.ReferenceIdeal.Ref.words g fun r d => (gumbel_eq m c r d).trans (hg r d)
  have hbot : ∀ i, (⊥ : EReal) < Cert.ReferenceIdeal.Ref.score q Cert.ReferenceIdeal.Ref.words i := fun i => by
    obtain ⟨r, d, rfl⟩ : ∃ (r : Fin 128) (d : Fin 100000), i = ix2 r d := ⟨i 0, i 1, eq_ix2 i⟩
    rw [hs]
    exact EReal.bot_lt_coe _
  choose p hp h1 h2 using fun r => value m c r fun d hd => by rw [hZ r d (by omega)]; exact EReal.bot_lt_coe _
  refine ⟨p, fun r => (hp r).1, fun r => ⟨h1 r, ?_, ?_⟩⟩
  · obtain ⟨p', hp', e⟩ := Cert.ReferenceIdeal.Ref.best_lead (Cert.ReferenceIdeal.Ref.score q Cert.ReferenceIdeal.Ref.words) hbot r
    have h3 := lead_shift (Y := Cert.ReferenceIdeal.Ref.row (Cert.ReferenceIdeal.Ref.score q Cert.ReferenceIdeal.Ref.words) r) (hp r) _
      (Real.log (∑ k, Real.exp (y r k * (67108864 / 13421773)))) (hZ r) fun d hd => by
        unfold Cert.ReferenceIdeal.Ref.row upTo
        rw [dif_pos hd, dif_pos hd, hs]
    rw [e, Lead.unique h3 hp']
  · have hpos : 0 < ∑ k, Real.exp (y r k * (67108864 / 13421773)) := Finset.sum_pos (fun k _ => Real.exp_pos _) ⟨⟨0, by omega⟩, Finset.mem_univ _⟩
    rw [h2, hS, hE r (p r) (hp r).1, Cert.ReferenceIdeal.Ref.div_real _ _ hpos.ne', Cert.ReferenceIdeal.Ref.soften_apply q y hy]

end Cert.Agree

end
-- ==== Proof.Close.lean ====
/-
  The value claim, and the frames under the precondition.
-/
module

public import proofs.«01_k».proof.Defs
public import proofs.«01_k».proof.Proof.Frames
public import proofs.«01_k».proof.Proof.Agree

@[expose] public section

noncomputable section

namespace Cert.Close

open Idealize.ShloMosaic Idealize.ShloMosaic.TcCoe Idealize.ShloMosaic.StableHlo Idealize.SL.Sem
open Cert.KernelIdeal Cert.KernelIdeal.Sweep

theorem kernelIdeal : quiescent_KernelIdeal_pre_finite (hPre_finite := Cert.Agree.finiteFacts) :=
  fun m ρ _ => Cert.KernelIdeal.Sweep.frame m ρ

theorem referenceIdeal : quiescent_ReferenceIdeal_pre_finite (hPre_finite := Cert.Agree.finiteFacts) :=
  fun m ρ _ => Cert.ReferenceIdeal.Ref.frame m ρ

theorem bestCol_at (x : FVec Ideal Cert.ReferenceIdeal.S128x100000 .f32) (r : Fin 128) :
    Cert.ReferenceIdeal.Ref.bestCol x (ix2 r 0 : Cert.ReferenceIdeal.S128x1.Idx) = Cert.ReferenceIdeal.Ref.best x (ix1 r : Cert.ReferenceIdeal.S128.Idx) := by
  unfold Cert.ReferenceIdeal.Ref.bestCol
  exact broadcastInDim_apply _ _ _ _ (ix1 r : Cert.ReferenceIdeal.S128.Idx) fun a => by match a with | ⟨0, _⟩ => rfl

/-- An index of a column. -/
theorem column_idx (j : S128x1.Idx) : ∃ r : Fin 128, j = ix2 r 0 := by
  refine ⟨j 0, funext fun a => Fin.ext ?_⟩
  match a with
  | ⟨0, _⟩ => rfl
  | ⟨1, _⟩ =>
    have h : (j 1).val < 1 := (j 1).isLt
    show (j 1).val = 0
    omega

/-- The reference's two tables are the kernel's. -/
theorem tables (m : (ℓ : Loc nD τ sig) → Buf (Elt Ideal) ℓ) (c : Dev nD) (q : FVec Ideal S128x100000 .f32)
    (hq : m ((c.tc : Thread nD τ).loc main_arg0) = q) (hf : ∀ i, ∃ y : ℝ, q i = (y : EReal)) :
    Cert.ReferenceIdeal.Ref.bestCol (Cert.ReferenceIdeal.Ref.score q Cert.ReferenceIdeal.Ref.words) = outCol (accAt m c 8)
    ∧ Cert.ReferenceIdeal.Ref.entry (Cert.ReferenceIdeal.Ref.soften q) (Cert.ReferenceIdeal.Ref.bestCol (Cert.ReferenceIdeal.Ref.score q Cert.ReferenceIdeal.Ref.words))
      = outVal (accAt m c 8) := by
  obtain ⟨p, hp, h⟩ := Cert.Agree.row_eq m c q hq hf
  have hb : ∀ r, Cert.ReferenceIdeal.Ref.bestCol (Cert.ReferenceIdeal.Ref.score q Cert.ReferenceIdeal.Ref.words) (ix2 r 0 : Cert.ReferenceIdeal.S128x1.Idx) = BitVec.ofNat 32 (p r) :=
    fun r => (bestCol_at _ r).trans (h r).2.1
  refine ⟨funext fun j => ?_, funext fun j => ?_⟩
  · obtain ⟨r, rfl⟩ := column_idx j
    exact (hb r).trans (h r).1.symm
  · obtain ⟨r, rfl⟩ := column_idx j
    exact (Cert.ReferenceIdeal.Ref.entry_apply (Cert.ReferenceIdeal.Ref.soften q) _ p hp hb r).trans (h r).2.2.symm

theorem algebraic : algebraic_KernelIdeal_ReferenceIdeal_pre_finite (hPre_finite := Cert.Agree.finiteFacts) := by
  intro m g m' g' hpre harg
  refine ⟨fun c => outCol (accAt m c 8), fun c => outVal (accAt m c 8), run_results m g, ?_⟩
  refine (θ_run _ _ _).mono (fun r h c => ?_) (Cert.ReferenceIdeal.Ref.run m' g')
  have hf := Cert.Agree.finite _ (hpre c)
  have ht := tables m c _ rfl hf
  have hr := Cert.ReferenceIdeal.Ref.results (F := Ideal) (launchContents m' c)
  have ha : (launchContents m' c (Proc.devRef .tc Cert.ReferenceIdeal.main_arg0) : FVec Ideal S128x100000 .f32) = m ((c.tc : Thread nD τ).loc main_arg0) := harg c
  rw [ha] at hr
  exact ⟨(h c _).trans (hr.1.trans ht.1), (h c _).trans (hr.2.trans ht.2), (h c _).trans (Cert.ReferenceIdeal.Ref.kept _)⟩

end Cert.Close

end
-- ==== Proof.lean ====
module

public import proofs.«01_k».proof.Defs
public import proofs.«01_k».proof.Proof.Close

@[expose] public section

namespace Cert.Proof

theorem claim : Cert.Claim :=
  ⟨Cert.Kernel.Gen.facts, Cert.KernelIdeal.Gen.facts, Cert.ReferenceIdeal.Gen.facts, Cert.Agree.finiteFacts,
    Cert.Frames.kernel, Cert.Frames.kernelIdeal, Cert.Close.kernelIdeal, Cert.Frames.referenceIdeal, Cert.Close.referenceIdeal,
    Cert.Frames.preserves, Cert.Close.algebraic⟩

end Cert.Proof
